-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_stand_apart [hPre_nearest_stand_apart : Cert.Pre_nearest_stand_apart.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_stand_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_stand_apart [hPre_nearest_stand_apart : Cert.Pre_nearest_stand_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_stand_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nearest_stand_apart [hKernelIdeal : Cert.KernelIdeal.Facts] [hPre_nearest_stand_apart : Cert.Pre_nearest_stand_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_stand_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nearest_stand_apart [hReferenceIdeal : Cert.ReferenceIdeal.Facts] [hPre_nearest_stand_apart : Cert.Pre_nearest_stand_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_stand_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nearest_stand_apart [hKernelIdeal : Cert.KernelIdeal.Facts] [hReferenceIdeal : Cert.ReferenceIdeal.Facts] [hPre_nearest_stand_apart : Cert.Pre_nearest_stand_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_stand_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nearest_stand_apart : Cert.Pre_nearest_stand_apart.Facts),
    quiescent_Kernel (hKernel := hKernel)
    ∧ quiescent_KernelIdeal (hKernelIdeal := hKernelIdeal)
    ∧ quiescent_KernelIdeal_pre_nearest_stand_apart (hKernelIdeal := hKernelIdeal) (hPre_nearest_stand_apart := hPre_nearest_stand_apart)
    ∧ quiescent_ReferenceIdeal (hReferenceIdeal := hReferenceIdeal)
    ∧ quiescent_ReferenceIdeal_pre_nearest_stand_apart (hReferenceIdeal := hReferenceIdeal) (hPre_nearest_stand_apart := hPre_nearest_stand_apart)
    ∧ preserves_Kernel_KernelIdeal
    ∧ algebraic_KernelIdeal_ReferenceIdeal_pre_nearest_stand_apart (hKernelIdeal := hKernelIdeal) (hReferenceIdeal := hReferenceIdeal) (hPre_nearest_stand_apart := hPre_nearest_stand_apart)
-- ==== Pre_nearest_stand_apart.lean ====
abbrev S2x8192x128 : Shape := ⟨3, ![2, 8192, 128]⟩
abbrev S2x8192 : Shape := ⟨2, ![2, 8192]⟩
abbrev S65536x2 : Shape := ⟨2, ![65536, 2]⟩
abbrev S128 : Shape := ⟨1, ![128]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x2 : Shape := ⟨3, ![2, 8192, 2]⟩
abbrev S2x8192x1x2 : Shape := ⟨4, ![2, 8192, 1, 2]⟩
abbrev S2x1x8192x2 : Shape := ⟨4, ![2, 1, 8192, 2]⟩
abbrev S2x8192x8192x2 : Shape := ⟨4, ![2, 8192, 8192, 2]⟩
abbrev S2x8192x8192 : Shape := ⟨3, ![2, 8192, 8192]⟩
abbrev S2x8192x32 : Shape := ⟨3, ![2, 8192, 32]⟩
abbrev S253 : Shape := ⟨1, ![253]⟩
abbrev S1x1x253 : Shape := ⟨3, ![1, 1, 253]⟩
abbrev S2x8192x253 : Shape := ⟨3, ![2, 8192, 253]⟩
abbrev S1x1x128 : Shape := ⟨3, ![1, 1, 128]⟩

class Facts : Prop where
  bcast_S_S2x8192 : S_.BroadcastsInDim S2x8192 (![] : Fin 0 → Fin S2x8192.rank)
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S1_S1x1x1_2 : S1.BroadcastsInDim S1x1x1 (![2] : Fin 1 → Fin S1x1x1.rank)
  bcast_S1x1x1_S2x8192x1_0_1_2 : S1x1x1.BroadcastsInDim S2x8192x1 (![0, 1, 2] : Fin 3 → Fin S2x8192x1.rank)
  reducesTo_S2x8192x1_S2x8192_d2 : S2x8192x1.ReducesTo [2] S2x8192
  h_S_ : 0 < S_.numel
  bcast_S2x8192_S2x8192x2_0_1 : S2x8192.BroadcastsInDim S2x8192x2 (![0, 1] : Fin 2 → Fin S2x8192x2.rank)
  bcast_S_S2x8192x2 : S_.BroadcastsInDim S2x8192x2 (![] : Fin 0 → Fin S2x8192x2.rank)
  bcast_S2x8192x2_S2x8192x1x2_0_1_3 : S2x8192x2.BroadcastsInDim S2x8192x1x2 (![0, 1, 3] : Fin 3 → Fin S2x8192x1x2.rank)
  bcast_S2x8192x2_S2x1x8192x2_0_2_3 : S2x8192x2.BroadcastsInDim S2x1x8192x2 (![0, 2, 3] : Fin 3 → Fin S2x1x8192x2.rank)
  bcast_S2x8192x1x2_S2x8192x8192x2_0_1_2_3 : S2x8192x1x2.BroadcastsInDim S2x8192x8192x2 (![0, 1, 2, 3] : Fin 4 → Fin S2x8192x8192x2.rank)
  bcast_S2x1x8192x2_S2x8192x8192x2_0_1_2_3 : S2x1x8192x2.BroadcastsInDim S2x8192x8192x2 (![0, 1, 2, 3] : Fin 4 → Fin S2x8192x8192x2.rank)
  reducesTo_S2x8192x8192x2_S2x8192x8192_d3 : S2x8192x8192x2.ReducesTo [3] S2x8192x8192
  sliceFits_S2x8192x8192_S2x8192x32 : S2x8192x8192.Slices (fun _ => 0) S2x8192x32
  slices_S2x8192x32_S2x8192x1_0_0_31 : S2x8192x32.Slices ![0, 0, 31] S2x8192x1
  bcast_S_S253 : S_.BroadcastsInDim S253 (![] : Fin 0 → Fin S253.rank)
  bcast_S253_S1x1x253_2 : S253.BroadcastsInDim S1x1x253 (![2] : Fin 1 → Fin S1x1x253.rank)
  bcast_S2x8192x1_S2x8192x253_0_1_2 : S2x8192x1.BroadcastsInDim S2x8192x253 (![0, 1, 2] : Fin 3 → Fin S2x8192x253.rank)
  bcast_S1x1x253_S2x8192x253_0_1_2 : S1x1x253.BroadcastsInDim S2x8192x253 (![0, 1, 2] : Fin 3 → Fin S2x8192x253.rank)
  bcast_S_S2x8192x253 : S_.BroadcastsInDim S2x8192x253 (![] : Fin 0 → Fin S2x8192x253.rank)
  reducesTo_S2x8192x253_S2x8192_d2 : S2x8192x253.ReducesTo [2] S2x8192
  bcast_S2x8192x1_S2x8192x8192_0_1_2 : S2x8192x1.BroadcastsInDim S2x8192x8192 (![0, 1, 2] : Fin 3 → Fin S2x8192x8192.rank)
  natLt_1_32 : 1 < 32
  reducesTo_S2x8192x8192_S2x8192_d2 : S2x8192x8192.ReducesTo [2] S2x8192
  slices_S128_S1_0 : S128.Slices ![0] S1
  shapeCasts_S1_S_ : S1.ShapeCasts S_
  bcast_S_S128 : S_.BroadcastsInDim S128 (![] : Fin 0 → Fin S128.rank)
  bcast_S128_S1x1x128_2 : S128.BroadcastsInDim S1x1x128 (![2] : Fin 1 → Fin S1x1x128.rank)
  bcast_S2x8192x1_S2x8192x128_0_1_2 : S2x8192x1.BroadcastsInDim S2x8192x128 (![0, 1, 2] : Fin 3 → Fin S2x8192x128.rank)
  bcast_S1x1x128_S2x8192x128_0_1_2 : S1x1x128.BroadcastsInDim S2x8192x128 (![0, 1, 2] : Fin 3 → Fin S2x8192x128.rank)
  gather_S65536x2_S2x8192x1_S2x8192x2_2_0_n_n_0_2_12_wf : GatherDims.WF S65536x2 S2x8192x1 S2x8192x2 [2] [0] [] [0] [] 2 ![1, 2]

variable [Facts]

def gather_S65536x2_S2x8192x1_S2x8192x2_2_0_n_n_0_2_12 : GatherDims S65536x2 S2x8192x1 S2x8192x2 where
  offsetDims := [2]
  collapsedSliceDims := [0]
  operandBatchingDims := []
  startIndicesBatchingDims := []
  startIndexMap := [0]
  indexVectorDim := 2
  sliceSizes := ![1, 2]
  wf := gather_S65536x2_S2x8192x1_S2x8192x2_2_0_n_n_0_2_12_wf
def fn_where {F : FTy → Type} [FloatOps F] (arg0 : IVec S2x8192 1) (arg1 : IVec S2x8192 32) (arg2 : IVec S2x8192 32) : IVec S2x8192 32 :=
  let v0 : IVec S2x8192 32 := select arg0 arg1 arg2
  v0

def fn_take {F : FTy → Type} [FloatOps F] (arg0 : FVec F S65536x2 .f32) (arg1 : IVec S2x8192 32) : FVec F S2x8192x2 .f32 :=
  let c : IVec S_ 32 := constantI S_ 32 0#32
  let v0 : IVec S2x8192 32 := broadcastInDim S2x8192 ![] bcast_S_S2x8192 c
  let v1 : IVec S2x8192 1 := cmpi .slt arg1 v0
  let c_0 : IVec S_ 32 := constantI S_ 32 65536#32
  let v2 : IVec S2x8192 32 := broadcastInDim S2x8192 ![] bcast_S_S2x8192 c_0
  let v3 : IVec S2x8192 32 := addi arg1 v2
  let v4 : IVec S2x8192 32 := fn_where (F := F) v1 v3 arg1
  let v5 : IVec S2x8192x1 32 := broadcastInDim S2x8192x1 ![0, 1] bcast_S2x8192_S2x8192x1_0_1 v4
  let c_1 : IVec S1 32 := constantI S1 32 65535#32
  let c_2 : IVec S_ 32 := constantI S_ 32 0#32
  let v6 : IVec S2x8192x1 32 := broadcastInDim S2x8192x1 ![] bcast_S_S2x8192x1 c_2
  let v7 : IVec S2x8192x1 1 := cmpi .sge v5 v6
  let v8 : IVec S1x1x1 32 := broadcastInDim S1x1x1 ![2] bcast_S1_S1x1x1_2 c_1
  let v9 : IVec S2x8192x1 32 := broadcastInDim S2x8192x1 ![0, 1, 2] bcast_S1x1x1_S2x8192x1_0_1_2 v8
  let v10 : IVec S2x8192x1 1 := cmpi .sle v5 v9
  let v11 : IVec S2x8192x1 1 := andi v7 v10
  let c_3 : IVec S_ 1 := constantI S_ 1 1#1
  let v12 : IVec S2x8192 1 := (fun x v => Host.reduce IntOp.andi x v reducesTo_S2x8192x1_S2x8192_d2 h_S_) v11 c_3
  let v13 : FVec F S2x8192x2 .f32 := (fun x i => Host.gather gather_S65536x2_S2x8192x1_S2x8192x2_2_0_n_n_0_2_12 x i) arg0 v5
  let v14 : IVec S2x8192x2 1 := broadcastInDim S2x8192x2 ![0, 1] bcast_S2x8192_S2x8192x2_0_1 v12
  let cst : FVec F S_ .f32 := constant S_ .f32 0x7FC00000#32
  let v15 : FVec F S2x8192x2 .f32 := broadcastInDim S2x8192x2 ![] bcast_S_S2x8192x2 cst
  let v16 : FVec F S2x8192x2 .f32 := select v14 v13 v15
  v16

def fn_where_0 {F : FTy → Type} [FloatOps F] (arg0 : IVec S2x8192x253 1) (arg1 : FVec F S2x8192x253 .f32) (arg2 : FVec F S_ .f32) : FVec F S2x8192x253 .f32 :=
  let v0 : FVec F S_ .f32 := id arg2
  let v1 : FVec F S2x8192x253 .f32 := broadcastInDim S2x8192x253 ![] bcast_S_S2x8192x253 v0
  let v2 : FVec F S2x8192x253 .f32 := select arg0 arg1 v1
  v2

def fn_part3 {F : FTy → Type} [FloatOps F] (main_v55 : IVec S2x8192x128 1) (main_v57 : IVec S128 1) : IVec S2x8192x128 1 :=
  let main_v58 : IVec S1x1x128 1 := broadcastInDim S1x1x128 ![2] bcast_S128_S1x1x128_2 main_v57
  let main_v59 : IVec S2x8192x128 1 := broadcastInDim S2x8192x128 ![0, 1, 2] bcast_S1x1x128_S2x8192x128_0_1_2 main_v58
  let main_v60 : IVec S2x8192x128 1 := andi main_v55 main_v59
  main_v60

def fn_part2 {F : FTy → Type} [FloatOps F] (main_arg5 : FVec F S128 .f32) (main_v11 : FVec F S2x8192x1 .f32) (main_v35 : FVec F S2x8192x1 .f32) (main_v37 : IVec S2x8192x8192 1) : IVec S2x8192x128 1 :=
  let main_v38 : IVec S2x8192x8192 32 := (extui 32 · natLt_1_32) main_v37
  let main_c_6 : IVec S_ 32 := constantI S_ 32 0#32
  let main_v39 : IVec S2x8192 32 := (fun x v => Host.reduce IntOp.addi x v reducesTo_S2x8192x8192_S2x8192_d2 h_S_) main_v38 main_c_6
  let main_v40 : IVec S2x8192x1 32 := broadcastInDim S2x8192x1 ![0, 1] bcast_S2x8192_S2x8192x1_0_1 main_v39
  let main_c_7 : IVec S_ 32 := constantI S_ 32 32#32
  let main_v41 : IVec S2x8192x1 32 := broadcastInDim S2x8192x1 ![] bcast_S_S2x8192x1 main_c_7
  let main_v42 : IVec S2x8192x1 1 := cmpi .eq main_v40 main_v41
  let main_v43 : IVec S2x8192x1 1 := cmpf .oeq main_v35 main_v11
  let main_v44 : IVec S2x8192x1 1 := ori main_v42 main_v43
  let main_cst_8 : FVec F S_ .f32 := constant S_ .f32 0x7F7FFFFF#32
  let main_v45 : FVec F S2x8192x1 .f32 := broadcastInDim S2x8192x1 ![] bcast_S_S2x8192x1 main_cst_8
  let main_v46 : IVec S2x8192x1 1 := cmpf .ole main_v35 main_v45
  let main_v47 : IVec S2x8192x1 1 := andi main_v44 main_v46
  let main_v48 : FVec F S1 .f32 := (extractStridedSlice S1 ![0] · slices_S128_S1_0) main_arg5
  let main_v49 : FVec F S_ .f32 := shapeCast S_ main_v48 shapeCasts_S1_S_
  let main_v50 : FVec F S128 .f32 := broadcastInDim S128 ![] bcast_S_S128 main_v49
  let main_v51 : IVec S128 1 := cmpf .oeq main_arg5 main_v50
  let main_v52 : IVec S1x1x128 1 := broadcastInDim S1x1x128 ![2] bcast_S128_S1x1x128_2 main_v51
  let main_v53 : IVec S2x8192x128 1 := broadcastInDim S2x8192x128 ![0, 1, 2] bcast_S2x8192x1_S2x8192x128_0_1_2 main_v47
  let main_v54 : IVec S2x8192x128 1 := broadcastInDim S2x8192x128 ![0, 1, 2] bcast_S1x1x128_S2x8192x128_0_1_2 main_v52
  let main_v55 : IVec S2x8192x128 1 := andi main_v53 main_v54
  let main_cst_9 : FVec F S_ .f32 := constant S_ .f32 0x00000000#32
  let main_v56 : FVec F S128 .f32 := broadcastInDim S128 ![] bcast_S_S128 main_cst_9
  let main_v57 : IVec S128 1 := cmpf .une main_arg5 main_v56
  fn_part3 (F := F) main_v55 main_v57

def fn_part1 {F : FTy → Type} [FloatOps F] (main_arg5 : FVec F S128 .f32) (main_v8 : FVec F S2x8192x8192 .f32) (main_v11 : FVec F S2x8192x1 .f32) (main_v14 : IVec S253 32) (main_v16 : IVec S253 32) (main_v17 : IVec S253 32) : IVec S2x8192x128 1 :=
  let main_v18 : IVec S253 32 := Host.shli main_v16 main_v17
  let main_v19 : FVec F S253 .f32 := bitcastToFloat .f32 main_v18
  let main_c_2 : IVec S_ 32 := constantI S_ 32 23#32
  let main_v20 : IVec S253 32 := broadcastInDim S253 ![] bcast_S_S253 main_c_2
  let main_v21 : IVec S253 32 := Host.shli main_v14 main_v20
  let main_v22 : FVec F S253 .f32 := bitcastToFloat .f32 main_v21
  let main_v23 : FVec F S1x1x253 .f32 := broadcastInDim S1x1x253 ![2] bcast_S253_S1x1x253_2 main_v19
  let main_v24 : FVec F S2x8192x253 .f32 := broadcastInDim S2x8192x253 ![0, 1, 2] bcast_S2x8192x1_S2x8192x253_0_1_2 main_v11
  let main_v25 : FVec F S2x8192x253 .f32 := broadcastInDim S2x8192x253 ![0, 1, 2] bcast_S1x1x253_S2x8192x253_0_1_2 main_v23
  let main_v26 : FVec F S2x8192x253 .f32 := mulf main_v24 main_v25
  let main_v27 : FVec F S2x8192x253 .f32 := Host.ceil main_v26
  let main_cst_3 : FVec F S_ .f32 := constant S_ .f32 0x4B800000#32
  let main_v28 : FVec F S2x8192x253 .f32 := broadcastInDim S2x8192x253 ![] bcast_S_S2x8192x253 main_cst_3
  let main_v29 : IVec S2x8192x253 1 := cmpf .ole main_v27 main_v28
  let main_v30 : FVec F S1x1x253 .f32 := broadcastInDim S1x1x253 ![2] bcast_S253_S1x1x253_2 main_v22
  let main_v31 : FVec F S2x8192x253 .f32 := broadcastInDim S2x8192x253 ![0, 1, 2] bcast_S1x1x253_S2x8192x253_0_1_2 main_v30
  let main_v32 : FVec F S2x8192x253 .f32 := mulf main_v27 main_v31
  let main_cst_4 : FVec F S_ .f32 := constant S_ .f32 0x7F800000#32
  let main_v33 : FVec F S2x8192x253 .f32 := fn_where_0 (F := F) main_v29 main_v32 main_cst_4
  let main_cst_5 : FVec F S_ .f32 := constant S_ .f32 0x7F800000#32
  let main_v34 : FVec F S2x8192 .f32 := (fun x v => Host.reduce FloatOps.minimumf x v reducesTo_S2x8192x253_S2x8192_d2 h_S_) main_v33 main_cst_5
  let main_v35 : FVec F S2x8192x1 .f32 := broadcastInDim S2x8192x1 ![0, 1] bcast_S2x8192_S2x8192x1_0_1 main_v34
  let main_v36 : FVec F S2x8192x8192 .f32 := broadcastInDim S2x8192x8192 ![0, 1, 2] bcast_S2x8192x1_S2x8192x8192_0_1_2 main_v35
  let main_v37 : IVec S2x8192x8192 1 := cmpf .ole main_v8 main_v36
  fn_part2 (F := F) main_arg5 main_v11 main_v35 main_v37

def fn {F : FTy → Type} [FloatOps F] (main_arg0 : FVec F S2x8192x128 .f32) (main_arg1 : IVec S2x8192 32) (main_arg2 : IVec S2x8192 32) (main_arg3 : FVec F S65536x2 .f32) (main_arg4 : FVec F S65536x2 .f32) (main_arg5 : FVec F S128 .f32) : IVec S2x8192x128 1 :=
  let main_v0 : FVec F S2x8192x2 .f32 := fn_take (F := F) main_arg4 main_arg2
  let main_v1 : FVec F S2x8192x2 .f32 := fn_take (F := F) main_arg3 main_arg1
  let main_v2 : FVec F S2x8192x1x2 .f32 := broadcastInDim S2x8192x1x2 ![0, 1, 3] bcast_S2x8192x2_S2x8192x1x2_0_1_3 main_v0
  let main_v3 : FVec F S2x1x8192x2 .f32 := broadcastInDim S2x1x8192x2 ![0, 2, 3] bcast_S2x8192x2_S2x1x8192x2_0_2_3 main_v1
  let main_v4 : FVec F S2x8192x8192x2 .f32 := broadcastInDim S2x8192x8192x2 ![0, 1, 2, 3] bcast_S2x8192x1x2_S2x8192x8192x2_0_1_2_3 main_v2
  let main_v5 : FVec F S2x8192x8192x2 .f32 := broadcastInDim S2x8192x8192x2 ![0, 1, 2, 3] bcast_S2x1x8192x2_S2x8192x8192x2_0_1_2_3 main_v3
  let main_v6 : FVec F S2x8192x8192x2 .f32 := subf main_v4 main_v5
  let main_v7 : FVec F S2x8192x8192x2 .f32 := mulf main_v6 main_v6
  let main_cst : FVec F S_ .f32 := constant S_ .f32 0x00000000#32
  let main_v8 : FVec F S2x8192x8192 .f32 := (fun x v => Host.reduceAdd x v reducesTo_S2x8192x8192x2_S2x8192x8192_d3 h_S_) main_v7 main_cst
  let main_v9 : FVec F S2x8192x8192 .f32 := Host.negf main_v8
  let main_values : FVec F S2x8192x32 .f32 := (fun x => (Host.topK S2x8192x32 2 (FloatOps.cmpfTotal .gt) x sliceFits_S2x8192x8192_S2x8192x32).1) main_v9
  let main_indices : IVec S2x8192x32 32 := (fun x => (Host.topK S2x8192x32 2 (FloatOps.cmpfTotal .gt) x sliceFits_S2x8192x8192_S2x8192x32).2) main_v9
  let main_v10 : FVec F S2x8192x1 .f32 := (extractStridedSlice S2x8192x1 ![0, 0, 31] · slices_S2x8192x32_S2x8192x1_0_0_31) main_values
  let main_v11 : FVec F S2x8192x1 .f32 := Host.negf main_v10
  let main_v12 : IVec S253 32 := iotaInDim S253 32 0
  let main_c : IVec S_ 32 := constantI S_ 32 1#32
  let main_v13 : IVec S253 32 := broadcastInDim S253 ![] bcast_S_S253 main_c
  let main_v14 : IVec S253 32 := addi main_v13 main_v12
  let main_c_0 : IVec S_ 32 := constantI S_ 32 254#32
  let main_v15 : IVec S253 32 := broadcastInDim S253 ![] bcast_S_S253 main_c_0
  let main_v16 : IVec S253 32 := subi main_v15 main_v14
  let main_c_1 : IVec S_ 32 := constantI S_ 32 23#32
  let main_v17 : IVec S253 32 := broadcastInDim S253 ![] bcast_S_S253 main_c_1
  fn_part1 (F := F) main_arg5 main_v8 main_v11 main_v14 main_v16 main_v17
-- ==== Kernel.lean ====
abbrev S2x8192x128 : Shape := ⟨3, ![2, 8192, 128]⟩
abbrev S2x8192 : Shape := ⟨2, ![2, 8192]⟩
abbrev S65536x2 : Shape := ⟨2, ![65536, 2]⟩
abbrev S128 : Shape := ⟨1, ![128]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x2 : Shape := ⟨3, ![2, 8192, 2]⟩
abbrev S2x2x8192 : Shape := ⟨3, ![2, 2, 8192]⟩
abbrev S1x1 : Shape := ⟨2, ![1, 1]⟩
abbrev S1x128x2 : Shape := ⟨3, ![1, 128, 2]⟩
abbrev S1x2x8192 : Shape := ⟨3, ![1, 2, 8192]⟩
abbrev S1x8192x128 : Shape := ⟨3, ![1, 8192, 128]⟩
abbrev S1x128x128 : Shape := ⟨3, ![1, 128, 128]⟩
abbrev S1x128x1 : Shape := ⟨3, ![1, 128, 1]⟩
abbrev S128x1 : Shape := ⟨2, ![128, 1]⟩
abbrev S1x1x8192 : Shape := ⟨3, ![1, 1, 8192]⟩
abbrev S1x8192 : Shape := ⟨2, ![1, 8192]⟩
abbrev S128x8192 : Shape := ⟨2, ![128, 8192]⟩
abbrev S128x128 : Shape := ⟨2, ![128, 128]⟩
abbrev S128x768 : Shape := ⟨2, ![128, 768]⟩
abbrev S8192x128 : Shape := ⟨2, ![8192, 128]⟩

abbrev nBuf : Space → Nat
  | .hbm => 64
  | .vmem => 9
  | .smem => 0
  | _ => 0

abbrev bufTy : (tb : Table) → Fin (tcTables nBuf tb) → BufTy
  | .hbm, ⟨0, _⟩ => ⟨S2x8192x128, .f32⟩
  | .hbm, ⟨1, _⟩ => ⟨S2x8192, .i32⟩
  | .hbm, ⟨2, _⟩ => ⟨S2x8192, .i32⟩
  | .hbm, ⟨3, _⟩ => ⟨S65536x2, .f32⟩
  | .hbm, ⟨4, _⟩ => ⟨S65536x2, .f32⟩
  | .hbm, ⟨5, _⟩ => ⟨S128, .f32⟩
  | .hbm, ⟨6, _⟩ => ⟨S_, .i32⟩
  | .hbm, ⟨7, _⟩ => ⟨S2x8192, .i32⟩
  | .hbm, ⟨8, _⟩ => ⟨S2x8192, .i1⟩
  | .hbm, ⟨9, _⟩ => ⟨S_, .i32⟩
  | .hbm, ⟨10, _⟩ => ⟨S2x8192, .i32⟩
  | .hbm, ⟨11, _⟩ => ⟨S2x8192, .i32⟩
  | .hbm, ⟨12, _⟩ => ⟨S2x8192, .i32⟩
  | .hbm, ⟨13, _⟩ => ⟨S2x8192x1, .i32⟩
  | .hbm, ⟨14, _⟩ => ⟨S1, .i32⟩
  | .hbm, ⟨15, _⟩ => ⟨S_, .i32⟩
  | .hbm, ⟨16, _⟩ => ⟨S2x8192x1, .i32⟩
  | .hbm, ⟨17, _⟩ => ⟨S2x8192x1, .i1⟩
  | .hbm, ⟨18, _⟩ => ⟨S1x1x1, .i32⟩
  | .hbm, ⟨19, _⟩ => ⟨S2x8192x1, .i32⟩
  | .hbm, ⟨20, _⟩ => ⟨S2x8192x1, .i1⟩
  | .hbm, ⟨21, _⟩ => ⟨S2x8192x1, .i1⟩
  | .hbm, ⟨22, _⟩ => ⟨S_, .i1⟩
  | .hbm, ⟨23, _⟩ => ⟨S2x8192, .i1⟩
  | .hbm, ⟨24, _⟩ => ⟨S2x8192x2, .f32⟩
  | .hbm, ⟨25, _⟩ => ⟨S2x8192x2, .i1⟩
  | .hbm, ⟨26, _⟩ => ⟨S_, .f32⟩
  | .hbm, ⟨27, _⟩ => ⟨S2x8192x2, .f32⟩
  | .hbm, ⟨28, _⟩ => ⟨S2x8192x2, .f32⟩
  | .hbm, ⟨29, _⟩ => ⟨S_, .i32⟩
  | .hbm, ⟨30, _⟩ => ⟨S2x8192, .i32⟩
  | .hbm, ⟨31, _⟩ => ⟨S2x8192, .i1⟩
  | .hbm, ⟨32, _⟩ => ⟨S_, .i32⟩
  | .hbm, ⟨33, _⟩ => ⟨S2x8192, .i32⟩
  | .hbm, ⟨34, _⟩ => ⟨S2x8192, .i32⟩
  | .hbm, ⟨35, _⟩ => ⟨S2x8192, .i32⟩
  | .hbm, ⟨36, _⟩ => ⟨S2x8192x1, .i32⟩
  | .hbm, ⟨37, _⟩ => ⟨S1, .i32⟩
  | .hbm, ⟨38, _⟩ => ⟨S_, .i32⟩
  | .hbm, ⟨39, _⟩ => ⟨S2x8192x1, .i32⟩
  | .hbm, ⟨40, _⟩ => ⟨S2x8192x1, .i1⟩
  | .hbm, ⟨41, _⟩ => ⟨S1x1x1, .i32⟩
  | .hbm, ⟨42, _⟩ => ⟨S2x8192x1, .i32⟩
  | .hbm, ⟨43, _⟩ => ⟨S2x8192x1, .i1⟩
  | .hbm, ⟨44, _⟩ => ⟨S2x8192x1, .i1⟩
  | .hbm, ⟨45, _⟩ => ⟨S_, .i1⟩
  | .hbm, ⟨46, _⟩ => ⟨S2x8192, .i1⟩
  | .hbm, ⟨47, _⟩ => ⟨S2x8192x2, .f32⟩
  | .hbm, ⟨48, _⟩ => ⟨S2x8192x2, .i1⟩
  | .hbm, ⟨49, _⟩ => ⟨S_, .f32⟩
  | .hbm, ⟨50, _⟩ => ⟨S2x8192x2, .f32⟩
  | .hbm, ⟨51, _⟩ => ⟨S2x8192x2, .f32⟩
  | .hbm, ⟨52, _⟩ => ⟨S2x2x8192, .f32⟩
  | .hbm, ⟨53, _⟩ => ⟨S1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1x1, .f32⟩
  | .hbm, ⟨63, _⟩ => ⟨S2x8192x128, .f32⟩
  | .local _ .vmem, ⟨0, _⟩ => ⟨S1x128x2, .f32⟩
  | .local _ .vmem, ⟨1, _⟩ => ⟨S1x128x2, .f32⟩
  | .local _ .vmem, ⟨2, _⟩ => ⟨S1x2x8192, .f32⟩
  | .local _ .vmem, ⟨3, _⟩ => ⟨S1x2x8192, .f32⟩
  | .local _ .vmem, ⟨4, _⟩ => ⟨S1x8192x128, .f32⟩
  | .local _ .vmem, ⟨5, _⟩ => ⟨S1x8192x128, .f32⟩
  | .local _ .vmem, ⟨6, _⟩ => ⟨S1x1, .f32⟩
  | .local _ .vmem, ⟨7, _⟩ => ⟨S1x128x128, .f32⟩
  | .local _ .vmem, ⟨8, _⟩ => ⟨S1x128x128, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_c_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_c_1 : Ref sig .tc := ⟨.hbm, 14, rfl⟩
abbrev main_call0_call0_c_2 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_3 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst : Ref sig .tc := ⟨.hbm, 26, rfl⟩
abbrev main_call0_call0_v15 : Ref sig .tc := ⟨.hbm, 27, rfl⟩
abbrev main_call0_v0 : Ref sig .tc := ⟨.hbm, 28, rfl⟩
abbrev main_call0_call1_c : Ref sig .tc := ⟨.hbm, 29, rfl⟩
abbrev main_call0_call1_v0 : Ref sig .tc := ⟨.hbm, 30, rfl⟩
abbrev main_call0_call1_v1 : Ref sig .tc := ⟨.hbm, 31, rfl⟩
abbrev main_call0_call1_c_0 : Ref sig .tc := ⟨.hbm, 32, rfl⟩
abbrev main_call0_call1_v2 : Ref sig .tc := ⟨.hbm, 33, rfl⟩
abbrev main_call0_call1_v3 : Ref sig .tc := ⟨.hbm, 34, rfl⟩
abbrev main_call0_call1_v4 : Ref sig .tc := ⟨.hbm, 35, rfl⟩
abbrev main_call0_call1_v5 : Ref sig .tc := ⟨.hbm, 36, rfl⟩
abbrev main_call0_call1_c_1 : Ref sig .tc := ⟨.hbm, 37, rfl⟩
abbrev main_call0_call1_c_2 : Ref sig .tc := ⟨.hbm, 38, rfl⟩
abbrev main_call0_call1_v6 : Ref sig .tc := ⟨.hbm, 39, rfl⟩
abbrev main_call0_call1_v7 : Ref sig .tc := ⟨.hbm, 40, rfl⟩
abbrev main_call0_call1_v8 : Ref sig .tc := ⟨.hbm, 41, rfl⟩
abbrev main_call0_call1_v9 : Ref sig .tc := ⟨.hbm, 42, rfl⟩
abbrev main_call0_call1_v10 : Ref sig .tc := ⟨.hbm, 43, rfl⟩
abbrev main_call0_call1_v11 : Ref sig .tc := ⟨.hbm, 44, rfl⟩
abbrev main_call0_call1_c_3 : Ref sig .tc := ⟨.hbm, 45, rfl⟩
abbrev main_call0_call1_v12 : Ref sig .tc := ⟨.hbm, 46, rfl⟩
abbrev main_call0_call1_v13 : Ref sig .tc := ⟨.hbm, 47, rfl⟩
abbrev main_call0_call1_v14 : Ref sig .tc := ⟨.hbm, 48, rfl⟩
abbrev main_call0_call1_cst : Ref sig .tc := ⟨.hbm, 49, rfl⟩
abbrev main_call0_call1_v15 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_cst : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_cst_0 : Ref sig .tc := ⟨.hbm, 60, rfl⟩
abbrev main_call0_v9 : Ref sig .tc := ⟨.hbm, 61, rfl⟩
abbrev main_call0_v10 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_15 : BitVec 32 := 0#32
  let c31_i32 : BitVec 32 := 31#32
  let v794 : BitVec 32 := Scalar.addi c0_i32_15 c31_i32
  let c1_i32 : BitVec 32 := 1#32
  ⟨c0_i32_15, v794, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x128 : Shape := ⟨3, ![2, 8192, 128]⟩
abbrev S2x8192 : Shape := ⟨2, ![2, 8192]⟩
abbrev S65536x2 : Shape := ⟨2, ![65536, 2]⟩
abbrev S128 : Shape := ⟨1, ![128]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x2 : Shape := ⟨3, ![2, 8192, 2]⟩
abbrev S2x8192x1x2 : Shape := ⟨4, ![2, 8192, 1, 2]⟩
abbrev S2x1x8192x2 : Shape := ⟨4, ![2, 1, 8192, 2]⟩
abbrev S2x8192x8192x2 : Shape := ⟨4, ![2, 8192, 8192, 2]⟩
abbrev S2x8192x8192 : Shape := ⟨3, ![2, 8192, 8192]⟩
abbrev S2x8192x32 : Shape := ⟨3, ![2, 8192, 32]⟩
abbrev S2 : Shape := ⟨1, ![2]⟩
abbrev S2x1x1 : Shape := ⟨3, ![2, 1, 1]⟩
abbrev S2x8192x32x1 : Shape := ⟨4, ![2, 8192, 32, 1]⟩
abbrev S2x8192x32x2 : Shape := ⟨4, ![2, 8192, 32, 2]⟩
abbrev S2x8192x32x128 : Shape := ⟨4, ![2, 8192, 32, 128]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x8192, .i32⟩
  | .hbm, ⟨2, _⟩ => ⟨S2x8192, .i32⟩
  | .hbm, ⟨3, _⟩ => ⟨S65536x2, .f32⟩
  | .hbm, ⟨4, _⟩ => ⟨S65536x2, .f32⟩
  | .hbm, ⟨5, _⟩ => ⟨S128, .f32⟩
  | .hbm, ⟨6, _⟩ => ⟨S_, .i32⟩
  | .hbm, ⟨7, _⟩ => ⟨S2x8192, .i32⟩
  | .hbm, ⟨8, _⟩ => ⟨S2x8192, .i1⟩
  | .hbm, ⟨9, _⟩ => ⟨S_, .i32⟩
  | .hbm, ⟨10, _⟩ => ⟨S2x8192, .i32⟩
  | .hbm, ⟨11, _⟩ => ⟨S2x8192, .i32⟩
  | .hbm, ⟨12, _⟩ => ⟨S2x8192, .i32⟩
  | .hbm, ⟨13, _⟩ => ⟨S2x8192x1, .i32⟩
  | .hbm, ⟨14, _⟩ => ⟨S1, .i32⟩
  | .hbm, ⟨15, _⟩ => ⟨S_, .i32⟩
  | .hbm, ⟨16, _⟩ => ⟨S2x8192x1, .i32⟩
  | .hbm, ⟨17, _⟩ => ⟨S2x8192x1, .i1⟩
  | .hbm, ⟨18, _⟩ => ⟨S1x1x1, .i32⟩
  | .hbm, ⟨19, _⟩ => ⟨S2x8192x1, .i32⟩
  | .hbm, ⟨20, _⟩ => ⟨S2x8192x1, .i1⟩
  | .hbm, ⟨21, _⟩ => ⟨S2x8192x1, .i1⟩
  | .hbm, ⟨22, _⟩ => ⟨S_, .i1⟩
  | .hbm, ⟨23, _⟩ => ⟨S2x8192, .i1⟩
  | .hbm, ⟨24, _⟩ => ⟨S2x8192x2, .f32⟩
  | .hbm, ⟨25, _⟩ => ⟨S2x8192x2, .i1⟩
  | .hbm, ⟨26, _⟩ => ⟨S_, .f32⟩
  | .hbm, ⟨27, _⟩ => ⟨S2x8192x2, .f32⟩
  | .hbm, ⟨28, _⟩ => ⟨S2x8192x2, .f32⟩
  | .hbm, ⟨29, _⟩ => ⟨S_, .i32⟩
  | .hbm, ⟨30, _⟩ => ⟨S2x8192, .i32⟩
  | .hbm, ⟨31, _⟩ => ⟨S2x8192, .i1⟩
  | .hbm, ⟨32, _⟩ => ⟨S_, .i32⟩
  | .hbm, ⟨33, _⟩ => ⟨S2x8192, .i32⟩
  | .hbm, ⟨34, _⟩ => ⟨S2x8192, .i32⟩
  | .hbm, ⟨35, _⟩ => ⟨S2x8192, .i32⟩
  | .hbm, ⟨36, _⟩ => ⟨S2x8192x1, .i32⟩
  | .hbm, ⟨37, _⟩ => ⟨S1, .i32⟩
  | .hbm, ⟨38, _⟩ => ⟨S_, .i32⟩
  | .hbm, ⟨39, _⟩ => ⟨S2x8192x1, .i32⟩
  | .hbm, ⟨40, _⟩ => ⟨S2x8192x1, .i1⟩
  | .hbm, ⟨41, _⟩ => ⟨S1x1x1, .i32⟩
  | .hbm, ⟨42, _⟩ => ⟨S2x8192x1, .i32⟩
  | .hbm, ⟨43, _⟩ => ⟨S2x8192x1, .i1⟩
  | .hbm, ⟨44, _⟩ => ⟨S2x8192x1, .i1⟩
  | .hbm, ⟨45, _⟩ => ⟨S_, .i1⟩
  | .hbm, ⟨46, _⟩ => ⟨S2x8192, .i1⟩
  | .hbm, ⟨47, _⟩ => ⟨S2x8192x2, .f32⟩
  | .hbm, ⟨48, _⟩ => ⟨S2x8192x2, .i1⟩
  | .hbm, ⟨49, _⟩ => ⟨S_, .f32⟩
  | .hbm, ⟨50, _⟩ => ⟨S2x8192x2, .f32⟩
  | .hbm, ⟨51, _⟩ => ⟨S2x8192x2, .f32⟩
  | .hbm, ⟨52, _⟩ => ⟨S2x8192x1x2, .f32⟩
  | .hbm, ⟨53, _⟩ => ⟨S2x1x8192x2, .f32⟩
  | .hbm, ⟨54, _⟩ => ⟨S2x8192x8192x2, .f32⟩
  | .hbm, ⟨55, _⟩ => ⟨S2x8192x8192x2, .f32⟩
  | .hbm, ⟨56, _⟩ => ⟨S2x8192x8192x2, .f32⟩
  | .hbm, ⟨57, _⟩ => ⟨S2x8192x8192x2, .f32⟩
  | .hbm, ⟨58, _⟩ => ⟨S_, .f32⟩
  | .hbm, ⟨59, _⟩ => ⟨S2x8192x8192, .f32⟩
  | .hbm, ⟨60, _⟩ => ⟨S2x8192x8192, .f32⟩
  | .hbm, ⟨61, _⟩ => ⟨S2x8192x32, .f32⟩
  | .hbm, ⟨62, _⟩ => ⟨S2x8192x32, .i32⟩
  | .hbm, ⟨63, _⟩ => ⟨S2x8192x32, .f32⟩
  | .hbm, ⟨64, _⟩ => ⟨S2, .i32⟩
  | .hbm, ⟨65, _⟩ => ⟨S2x1x1, .i32⟩
  | .hbm, ⟨66, _⟩ => ⟨S_, .i32⟩
  | .hbm, ⟨67, _⟩ => ⟨S2x1x1, .i32⟩
  | .hbm, ⟨68, _⟩ => ⟨S2x1x1, .i1⟩
  | .hbm, ⟨69, _⟩ => ⟨S_, .i32⟩
  | .hbm, ⟨70, _⟩ => ⟨S2x1x1, .i32⟩
  | .hbm, ⟨71, _⟩ => ⟨S2x1x1, .i32⟩
  | .hbm, ⟨72, _⟩ => ⟨S2x1x1, .i32⟩
  | .hbm, ⟨73, _⟩ => ⟨S_, .i32⟩
  | .hbm, ⟨74, _⟩ => ⟨S2x8192x32, .i32⟩
  | .hbm, ⟨75, _⟩ => ⟨S2x8192x32, .i1⟩
  | .hbm, ⟨76, _⟩ => ⟨S_, .i32⟩
  | .hbm, ⟨77, _⟩ => ⟨S2x8192x32, .i32⟩
  | .hbm, ⟨78, _⟩ => ⟨S2x8192x32, .i32⟩
  | .hbm, ⟨79, _⟩ => ⟨S2x8192x32, .i32⟩
  | .hbm, ⟨80, _⟩ => ⟨S2x8192x32, .i32⟩
  | .hbm, ⟨81, _⟩ => ⟨S2x8192x32x1, .i32⟩
  | .hbm, ⟨82, _⟩ => ⟨S2x8192x32x1, .i32⟩
  | .hbm, ⟨83, _⟩ => ⟨S2x8192x32x2, .i32⟩
  | .hbm, ⟨84, _⟩ => ⟨S2x8192x32x128, .f32⟩
  | .hbm, ⟨85, _⟩ => ⟨S2x8192x32x1, .f32⟩
  | .hbm, ⟨86, _⟩ => ⟨S2x8192x32x1, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x1x1x128, .f32⟩
  | .hbm, ⟨92, _⟩ => ⟨S2x8192x32x128, .f32⟩
  | .hbm, ⟨93, _⟩ => ⟨S2x8192x32x128, .f32⟩
  | .hbm, ⟨94, _⟩ => ⟨S2x8192x32x128, .f32⟩
  | .hbm, ⟨95, _⟩ => ⟨S2x8192x32x128, .f32⟩
  | .hbm, ⟨96, _⟩ => ⟨S2x8192x32x128, .f32⟩
  | .hbm, ⟨97, _⟩ => ⟨S_, .f32⟩
  | .hbm, ⟨98, _⟩ => ⟨S2x8192x128, .f32⟩
  | .hbm, ⟨99, _⟩ => ⟨S_, .f32⟩
  | .hbm, ⟨100, _⟩ => ⟨S2x8192x128, .f32⟩
  | .hbm, ⟨101, _⟩ => ⟨S_, .f32⟩
  | .hbm, ⟨102, _⟩ => ⟨S2x8192x128, .f32⟩
  | .hbm, ⟨103, _⟩ => ⟨S2x8192x128, .f32⟩
  | .hbm, ⟨104, _⟩ => ⟨S2x8192x128, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_values : Ref sig .tc := ⟨.hbm, 61, rfl⟩
abbrev main_indices : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_c : Ref sig .tc := ⟨.hbm, 66, rfl⟩
abbrev main_v13 : Ref sig .tc := ⟨.hbm, 67, rfl⟩
abbrev main_v14 : Ref sig .tc := ⟨.hbm, 68, rfl⟩
abbrev main_c_0 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_c_1 : Ref sig .tc := ⟨.hbm, 73, rfl⟩
abbrev main_v18 : Ref sig .tc := ⟨.hbm, 74, rfl⟩
abbrev main_v19 : Ref sig .tc := ⟨.hbm, 75, rfl⟩
abbrev main_c_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_3 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_4 : Ref sig .tc := ⟨.hbm, 97, rfl⟩
abbrev main_v39 : Ref sig .tc := ⟨.hbm, 98, rfl⟩
abbrev main_cst_5 : Ref sig .tc := ⟨.hbm, 99, rfl⟩
abbrev main_v40 : Ref sig .tc := ⟨.hbm, 100, rfl⟩
abbrev main_cst_6 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩

abbrev nD : Nat := 1
abbrev τ : Topo := Topo.v7x

variable {F : FTy → Type} [FloatOps F]
-- ==== Proof.Straight.lean ====
/- What the straight-line stretch of the kernel's body leaves: the stretch between the squared distances and the test of
   the candidate word issues nothing, so whatever it computes is one word per row, and the four counts after it are the
   payloads of that word. The word itself needs no description: the kernel tests it and searches again where it fails. -/
module

public import proofs.«01_k».proof.Proof.Gen.KernelIdeal.Skeleton
public import Idealize.ShloMosaic.Lib.Exec

@[expose] public section

set_option maxRecDepth 8192

noncomputable section

namespace Cert.KernelIdeal.Own

open Cert.KernelIdeal Cert.KernelIdeal.Gen
open Idealize.ShloMosaic Idealize.ShloMosaic.TcCoe
open Idealize.SL Idealize.SL.Sem

variable {F : FTy → Type} [FloatOps F]

/-- Part 2 of the body issues nothing: it returns some values. -/
theorem ret_part2 (v16 : FVec F S128x8192 .f32) (v28 : FVec F S128x128 .f32) (v30 : FVec F S128x128 .f32) (v32 : FVec F S128x128 .f32) (v34 : FVec F S128x128 .f32) (v36 : FVec F S128x128 .f32) (v38 : FVec F S128x128 .f32) (v39 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part2 (F := F) i arg2 harg2 arg3 harg3 arg4 harg4 arg5 harg5 arg6 harg6 v16 v28 v30 v32 v34 v36 v38 v39 = .ret r :=
  ⟨_, fun i arg2 harg2 arg3 harg3 arg4 harg4 arg5 harg5 arg6 harg6 => by rw [k0_part2_eq_skeleton]; rfl⟩

/-- Part 3 of the body issues nothing: it returns some values. -/
theorem ret_part3 (v16 : FVec F S128x8192 .f32) (v88 : FVec F S128x128 .f32) (v90 : FVec F S128x128 .f32) (v92 : FVec F S128x128 .f32) (v94 : FVec F S128x128 .f32) (v96 : FVec F S128x128 .f32) (v98 : FVec F S128x128 .f32) (v99 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part3 (F := F) i arg2 harg2 arg3 harg3 arg4 harg4 arg5 harg5 arg6 harg6 v16 v88 v90 v92 v94 v96 v98 v99 = .ret r :=
  ⟨_, fun i arg2 harg2 arg3 harg3 arg4 harg4 arg5 harg5 arg6 harg6 => by rw [k0_part3_eq_skeleton]; rfl⟩

/-- Part 4 of the body issues nothing: it returns some values. -/
theorem ret_part4 (v16 : FVec F S128x8192 .f32) (v148 : FVec F S128x128 .f32) (v150 : FVec F S128x128 .f32) (v152 : FVec F S128x128 .f32) (v154 : FVec F S128x128 .f32) (v156 : FVec F S128x128 .f32) (v158 : FVec F S128x128 .f32) (v159 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part4 (F := F) i arg2 harg2 arg3 harg3 arg4 harg4 arg5 harg5 arg6 harg6 v16 v148 v150 v152 v154 v156 v158 v159 = .ret r :=
  ⟨_, fun i arg2 harg2 arg3 harg3 arg4 harg4 arg5 harg5 arg6 harg6 => by rw [k0_part4_eq_skeleton]; rfl⟩

/-- Part 5 of the body issues nothing: it returns some values. -/
theorem ret_part5 (v16 : FVec F S128x8192 .f32) (v208 : FVec F S128x128 .f32) (v210 : FVec F S128x128 .f32) (v212 : FVec F S128x128 .f32) (v214 : FVec F S128x128 .f32) (v216 : FVec F S128x128 .f32) (v218 : FVec F S128x128 .f32) (v219 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part5 (F := F) i arg2 harg2 arg3 harg3 arg4 harg4 arg5 harg5 arg6 harg6 v16 v208 v210 v212 v214 v216 v218 v219 = .ret r :=
  ⟨_, fun i arg2 harg2 arg3 harg3 arg4 harg4 arg5 harg5 arg6 harg6 => by rw [k0_part5_eq_skeleton]; rfl⟩

/-- Part 6 of the body issues nothing: it returns some values. -/
theorem ret_part6 (v16 : FVec F S128x8192 .f32) (v268 : FVec F S128x128 .f32) (v270 : FVec F S128x128 .f32) (v272 : FVec F S128x128 .f32) (v274 : FVec F S128x128 .f32) (v276 : FVec F S128x128 .f32) (v278 : FVec F S128x128 .f32) (v279 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part6 (F := F) i arg2 harg2 arg3 harg3 arg4 harg4 arg5 harg5 arg6 harg6 v16 v268 v270 v272 v274 v276 v278 v279 = .ret r :=
  ⟨_, fun i arg2 harg2 arg3 harg3 arg4 harg4 arg5 harg5 arg6 harg6 => by rw [k0_part6_eq_skeleton]; rfl⟩

/-- Part 7 of the body issues nothing: it returns some values. -/
theorem ret_part7 (v16 : FVec F S128x8192 .f32) (v328 : FVec F S128x128 .f32) (v330 : FVec F S128x128 .f32) (v332 : FVec F S128x128 .f32) (v334 : FVec F S128x128 .f32) (v336 : FVec F S128x128 .f32) (v338 : FVec F S128x128 .f32) (v339 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part7 (F := F) i arg2 harg2 arg3 harg3 arg4 harg4 arg5 harg5 arg6 harg6 v16 v328 v330 v332 v334 v336 v338 v339 = .ret r :=
  ⟨_, fun i arg2 harg2 arg3 harg3 arg4 harg4 arg5 harg5 arg6 harg6 => by rw [k0_part7_eq_skeleton]; rfl⟩

/-- Part 8 of the body issues nothing: it returns some values. -/
theorem ret_part8 (v16 : FVec F S128x8192 .f32) (v388 : FVec F S128x128 .f32) (v390 : FVec F S128x128 .f32) (v392 : FVec F S128x128 .f32) (v394 : FVec F S128x128 .f32) (v396 : FVec F S128x128 .f32) (v398 : FVec F S128x128 .f32) (v399 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part8 (F := F) i arg2 harg2 arg3 harg3 arg4 harg4 arg5 harg5 arg6 harg6 v16 v388 v390 v392 v394 v396 v398 v399 = .ret r :=
  ⟨_, fun i arg2 harg2 arg3 harg3 arg4 harg4 arg5 harg5 arg6 harg6 => by rw [k0_part8_eq_skeleton]; rfl⟩

/-- Part 9 of the body issues nothing: it returns some values. -/
theorem ret_part9 (v16 : FVec F S128x8192 .f32) (v448 : FVec F S128x128 .f32) (v450 : FVec F S128x128 .f32) (v452 : FVec F S128x128 .f32) (v454 : FVec F S128x128 .f32) (v456 : FVec F S128x128 .f32) (v458 : FVec F S128x128 .f32) (v459 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part9 (F := F) i arg2 harg2 arg3 harg3 arg4 harg4 arg5 harg5 arg6 harg6 v16 v448 v450 v452 v454 v456 v458 v459 = .ret r :=
  ⟨_, fun i arg2 harg2 arg3 harg3 arg4 harg4 arg5 harg5 arg6 harg6 => by rw [k0_part9_eq_skeleton]; rfl⟩

/-- Part 10 of the body issues nothing: it returns some values. -/
theorem ret_part10 (v16 : FVec F S128x8192 .f32) (v508 : FVec F S128x128 .f32) (v510 : FVec F S128x128 .f32) (v512 : FVec F S128x128 .f32) (v514 : FVec F S128x128 .f32) (v516 : FVec F S128x128 .f32) (v518 : FVec F S128x128 .f32) (v519 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part10 (F := F) i arg2 harg2 arg3 harg3 arg4 harg4 arg5 harg5 arg6 harg6 v16 v508 v510 v512 v514 v516 v518 v519 = .ret r :=
  ⟨_, fun i arg2 harg2 arg3 harg3 arg4 harg4 arg5 harg5 arg6 harg6 => by rw [k0_part10_eq_skeleton]; rfl⟩

/-- Part 11 of the body issues nothing: it returns some values. -/
theorem ret_part11 (v16 : FVec F S128x8192 .f32) (v568 : FVec F S128x128 .f32) (v570 : FVec F S128x128 .f32) (v572 : FVec F S128x128 .f32) (v574 : FVec F S128x128 .f32) (v576 : FVec F S128x128 .f32) (v578 : FVec F S128x128 .f32) (v579 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part11 (F := F) i arg2 harg2 arg3 harg3 arg4 harg4 arg5 harg5 arg6 harg6 v16 v568 v570 v572 v574 v576 v578 v579 = .ret r :=
  ⟨_, fun i arg2 harg2 arg3 harg3 arg4 harg4 arg5 harg5 arg6 harg6 => by rw [k0_part11_eq_skeleton]; rfl⟩

/-- Part 12 of the body issues nothing: it returns some values. -/
theorem ret_part12 (v16 : FVec F S128x8192 .f32) (v628 : FVec F S128x128 .f32) (v630 : FVec F S128x128 .f32) (v632 : FVec F S128x128 .f32) (v634 : FVec F S128x128 .f32) (v636 : FVec F S128x128 .f32) (v638 : FVec F S128x128 .f32) (v639 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part12 (F := F) i arg2 harg2 arg3 harg3 arg4 harg4 arg5 harg5 arg6 harg6 v16 v628 v630 v632 v634 v636 v638 v639 = .ret r :=
  ⟨_, fun i arg2 harg2 arg3 harg3 arg4 harg4 arg5 harg5 arg6 harg6 => by rw [k0_part12_eq_skeleton]; rfl⟩

/-- Part 13 of the body issues nothing: it returns some values. -/
theorem ret_part13 (v16 : FVec F S128x8192 .f32) (v688 : FVec F S128x128 .f32) (v690 : FVec F S128x128 .f32) (v692 : FVec F S128x128 .f32) (v694 : FVec F S128x128 .f32) (v696 : FVec F S128x128 .f32) (v698 : FVec F S128x128 .f32) (v699 : FVec F S128x128 .f32) : ∃ r, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part13 (F := F) i arg2 harg2 arg3 harg3 arg4 harg4 arg5 harg5 arg6 harg6 v16 v688 v690 v692 v694 v696 v698 v699 = .ret r :=
  ⟨_, fun i arg2 harg2 arg3 harg3 arg4 harg4 arg5 harg5 arg6 harg6 => by rw [k0_part13_eq_skeleton]; rfl⟩

/-- Part 14 of the body issues nothing: it returns some values. -/
theorem ret_part14 (v16 : FVec F S128x8192 .f32) (v748 : FVec F S128x128 .f32) (v750 : FVec F S128x128 .f32) (v752 : FVec F S128x128 .f32) (v754 : FVec F S128x128 .f32) (v756 : FVec F S128x128 .f32) (v758 : FVec F S128x128 .f32) (v759 : FVec F S128x128 .f32) : ∃ T : IVec S128x1 32, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole),
    k0_part14 (F := F) i arg2 harg2 arg3 harg3 arg4 harg4 arg5 harg5 arg6 harg6 v16 v748 v750 v752 v754 v756 v758 v759 = .ret ⟨T, k0_pay653 v16 T, k0_pay654 v16 T, k0_pay655 v16 T, k0_pay656 v16 T⟩ := by
  refine ⟨(Scf.fold (fun (_ : Fin k0_t1_loop.trips) (s : IVec S128x1 32 × IVec S128x1 32) => (k0_pay650 v16 v748 v750 v752 v754 v756 v758 v759 s.1 s.2, k0_pay651 v16 v748 v750 v752 v754 v756 v758 v759 s.1 s.2)) (k0_pay646, k0_pay647)).2, fun i arg2 harg2 arg3 harg3 arg4 harg4 arg5 harg5 arg6 harg6 => ?_⟩
  rw [k0_part14_eq_skeleton]; unfold k0_part14_skel
  rw [show ∀ (k : IVec S128x1 32 × IVec S128x1 32 → Prog (TpuEff nD τ sig (Elt F) (Λ₀ F) .tc) _),
    (Scf.Loop.for k0_t1_loop k0_t1_ok (k0_pay646, k0_pay647) (k0_t1_body (F := F) i arg2 harg2 arg3 harg3 arg4 harg4 arg5 harg5 arg6 harg6 v16 v748 v750 v752 v754 v756 v758 v759) >>= k) = k (Scf.fold _ _) from
      fun k => Scf.for_pure_bind _ _ _ _ _ _ (fun _ s => (k0_pay650 v16 v748 v750 v752 v754 v756 v758 v759 s.1 s.2, k0_pay651 v16 v748 v750 v752 v754 v756 v758 v759 s.1 s.2)) (fun _ _ => rfl) k]
  rfl

/-- The stretch from part 2 to part 14, continued by `k`. -/
def chain (v16 : FVec F S128x8192 .f32) (v28 : FVec F S128x128 .f32) (v30 : FVec F S128x128 .f32) (v32 : FVec F S128x128 .f32) (v34 : FVec F S128x128 .f32) (v36 : FVec F S128x128 .f32) (v38 : FVec F S128x128 .f32) (v39 : FVec F S128x128 .f32) (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole) {α : Type}
    (k : IVec S128x1 32 → IVec S128x1 32 → IVec S128x1 32 → IVec S128x1 1 → IVec S128x1 1 → Prog (TpuEff nD τ sig (Elt F) (Λ₀ F) .tc) α) : Prog (TpuEff nD τ sig (Elt F) (Λ₀ F) .tc) α := do
  let ⟨v88, v90, v92, v94, v96, v98, v99⟩ : Σ' (v88 : FVec F S128x128 .f32) (v90 : FVec F S128x128 .f32) (v92 : FVec F S128x128 .f32) (v94 : FVec F S128x128 .f32) (v96 : FVec F S128x128 .f32) (v98 : FVec F S128x128 .f32), FVec F S128x128 .f32 ← k0_part2 i arg2 harg2 arg3 harg3 arg4 harg4 arg5 harg5 arg6 harg6 v16 v28 v30 v32 v34 v36 v38 v39
  let ⟨v148, v150, v152, v154, v156, v158, v159⟩ : Σ' (v148 : FVec F S128x128 .f32) (v150 : FVec F S128x128 .f32) (v152 : FVec F S128x128 .f32) (v154 : FVec F S128x128 .f32) (v156 : FVec F S128x128 .f32) (v158 : FVec F S128x128 .f32), FVec F S128x128 .f32 ← k0_part3 i arg2 harg2 arg3 harg3 arg4 harg4 arg5 harg5 arg6 harg6 v16 v88 v90 v92 v94 v96 v98 v99
  let ⟨v208, v210, v212, v214, v216, v218, v219⟩ : Σ' (v208 : FVec F S128x128 .f32) (v210 : FVec F S128x128 .f32) (v212 : FVec F S128x128 .f32) (v214 : FVec F S128x128 .f32) (v216 : FVec F S128x128 .f32) (v218 : FVec F S128x128 .f32), FVec F S128x128 .f32 ← k0_part4 i arg2 harg2 arg3 harg3 arg4 harg4 arg5 harg5 arg6 harg6 v16 v148 v150 v152 v154 v156 v158 v159
  let ⟨v268, v270, v272, v274, v276, v278, v279⟩ : Σ' (v268 : FVec F S128x128 .f32) (v270 : FVec F S128x128 .f32) (v272 : FVec F S128x128 .f32) (v274 : FVec F S128x128 .f32) (v276 : FVec F S128x128 .f32) (v278 : FVec F S128x128 .f32), FVec F S128x128 .f32 ← k0_part5 i arg2 harg2 arg3 harg3 arg4 harg4 arg5 harg5 arg6 harg6 v16 v208 v210 v212 v214 v216 v218 v219
  let ⟨v328, v330, v332, v334, v336, v338, v339⟩ : Σ' (v328 : FVec F S128x128 .f32) (v330 : FVec F S128x128 .f32) (v332 : FVec F S128x128 .f32) (v334 : FVec F S128x128 .f32) (v336 : FVec F S128x128 .f32) (v338 : FVec F S128x128 .f32), FVec F S128x128 .f32 ← k0_part6 i arg2 harg2 arg3 harg3 arg4 harg4 arg5 harg5 arg6 harg6 v16 v268 v270 v272 v274 v276 v278 v279
  let ⟨v388, v390, v392, v394, v396, v398, v399⟩ : Σ' (v388 : FVec F S128x128 .f32) (v390 : FVec F S128x128 .f32) (v392 : FVec F S128x128 .f32) (v394 : FVec F S128x128 .f32) (v396 : FVec F S128x128 .f32) (v398 : FVec F S128x128 .f32), FVec F S128x128 .f32 ← k0_part7 i arg2 harg2 arg3 harg3 arg4 harg4 arg5 harg5 arg6 harg6 v16 v328 v330 v332 v334 v336 v338 v339
  let ⟨v448, v450, v452, v454, v456, v458, v459⟩ : Σ' (v448 : FVec F S128x128 .f32) (v450 : FVec F S128x128 .f32) (v452 : FVec F S128x128 .f32) (v454 : FVec F S128x128 .f32) (v456 : FVec F S128x128 .f32) (v458 : FVec F S128x128 .f32), FVec F S128x128 .f32 ← k0_part8 i arg2 harg2 arg3 harg3 arg4 harg4 arg5 harg5 arg6 harg6 v16 v388 v390 v392 v394 v396 v398 v399
  let ⟨v508, v510, v512, v514, v516, v518, v519⟩ : Σ' (v508 : FVec F S128x128 .f32) (v510 : FVec F S128x128 .f32) (v512 : FVec F S128x128 .f32) (v514 : FVec F S128x128 .f32) (v516 : FVec F S128x128 .f32) (v518 : FVec F S128x128 .f32), FVec F S128x128 .f32 ← k0_part9 i arg2 harg2 arg3 harg3 arg4 harg4 arg5 harg5 arg6 harg6 v16 v448 v450 v452 v454 v456 v458 v459
  let ⟨v568, v570, v572, v574, v576, v578, v579⟩ : Σ' (v568 : FVec F S128x128 .f32) (v570 : FVec F S128x128 .f32) (v572 : FVec F S128x128 .f32) (v574 : FVec F S128x128 .f32) (v576 : FVec F S128x128 .f32) (v578 : FVec F S128x128 .f32), FVec F S128x128 .f32 ← k0_part10 i arg2 harg2 arg3 harg3 arg4 harg4 arg5 harg5 arg6 harg6 v16 v508 v510 v512 v514 v516 v518 v519
  let ⟨v628, v630, v632, v634, v636, v638, v639⟩ : Σ' (v628 : FVec F S128x128 .f32) (v630 : FVec F S128x128 .f32) (v632 : FVec F S128x128 .f32) (v634 : FVec F S128x128 .f32) (v636 : FVec F S128x128 .f32) (v638 : FVec F S128x128 .f32), FVec F S128x128 .f32 ← k0_part11 i arg2 harg2 arg3 harg3 arg4 harg4 arg5 harg5 arg6 harg6 v16 v568 v570 v572 v574 v576 v578 v579
  let ⟨v688, v690, v692, v694, v696, v698, v699⟩ : Σ' (v688 : FVec F S128x128 .f32) (v690 : FVec F S128x128 .f32) (v692 : FVec F S128x128 .f32) (v694 : FVec F S128x128 .f32) (v696 : FVec F S128x128 .f32) (v698 : FVec F S128x128 .f32), FVec F S128x128 .f32 ← k0_part12 i arg2 harg2 arg3 harg3 arg4 harg4 arg5 harg5 arg6 harg6 v16 v628 v630 v632 v634 v636 v638 v639
  let ⟨v748, v750, v752, v754, v756, v758, v759⟩ : Σ' (v748 : FVec F S128x128 .f32) (v750 : FVec F S128x128 .f32) (v752 : FVec F S128x128 .f32) (v754 : FVec F S128x128 .f32) (v756 : FVec F S128x128 .f32) (v758 : FVec F S128x128 .f32), FVec F S128x128 .f32 ← k0_part13 i arg2 harg2 arg3 harg3 arg4 harg4 arg5 harg5 arg6 harg6 v16 v688 v690 v692 v694 v696 v698 v699
  let ⟨v795_1, v801, v806, v808, v810⟩ : Σ' (v795_1 : IVec S128x1 32) (v801 : IVec S128x1 32) (v806 : IVec S128x1 32) (v808 : IVec S128x1 1), IVec S128x1 1 ← k0_part14 i arg2 harg2 arg3 harg3 arg4 harg4 arg5 harg5 arg6 harg6 v16 v748 v750 v752 v754 v756 v758 v759
  k v795_1 v801 v806 v808 v810

/-- It continues at one word per row and the counts of that word. -/
theorem chain_ret (v16 : FVec F S128x8192 .f32) (v28 : FVec F S128x128 .f32) (v30 : FVec F S128x128 .f32) (v32 : FVec F S128x128 .f32) (v34 : FVec F S128x128 .f32) (v36 : FVec F S128x128 .f32) (v38 : FVec F S128x128 .f32) (v39 : FVec F S128x128 .f32) : ∃ T : IVec S128x1 32, ∀ (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole) {α : Type}
    (k : IVec S128x1 32 → IVec S128x1 32 → IVec S128x1 32 → IVec S128x1 1 → IVec S128x1 1 → Prog (TpuEff nD τ sig (Elt F) (Λ₀ F) .tc) α),
    chain v16 v28 v30 v32 v34 v36 v38 v39 i arg2 harg2 arg3 harg3 arg4 harg4 arg5 harg5 arg6 harg6 k = k T (k0_pay653 v16 T) (k0_pay654 v16 T) (k0_pay655 v16 T) (k0_pay656 v16 T) := by
  obtain ⟨⟨a2, b2, c2, d2, e2, f2, g2⟩, h2⟩ := ret_part2 (F := F) v16 v28 v30 v32 v34 v36 v38 v39
  obtain ⟨⟨a3, b3, c3, d3, e3, f3, g3⟩, h3⟩ := ret_part3 (F := F) v16 a2 b2 c2 d2 e2 f2 g2
  obtain ⟨⟨a4, b4, c4, d4, e4, f4, g4⟩, h4⟩ := ret_part4 (F := F) v16 a3 b3 c3 d3 e3 f3 g3
  obtain ⟨⟨a5, b5, c5, d5, e5, f5, g5⟩, h5⟩ := ret_part5 (F := F) v16 a4 b4 c4 d4 e4 f4 g4
  obtain ⟨⟨a6, b6, c6, d6, e6, f6, g6⟩, h6⟩ := ret_part6 (F := F) v16 a5 b5 c5 d5 e5 f5 g5
  obtain ⟨⟨a7, b7, c7, d7, e7, f7, g7⟩, h7⟩ := ret_part7 (F := F) v16 a6 b6 c6 d6 e6 f6 g6
  obtain ⟨⟨a8, b8, c8, d8, e8, f8, g8⟩, h8⟩ := ret_part8 (F := F) v16 a7 b7 c7 d7 e7 f7 g7
  obtain ⟨⟨a9, b9, c9, d9, e9, f9, g9⟩, h9⟩ := ret_part9 (F := F) v16 a8 b8 c8 d8 e8 f8 g8
  obtain ⟨⟨a10, b10, c10, d10, e10, f10, g10⟩, h10⟩ := ret_part10 (F := F) v16 a9 b9 c9 d9 e9 f9 g9
  obtain ⟨⟨a11, b11, c11, d11, e11, f11, g11⟩, h11⟩ := ret_part11 (F := F) v16 a10 b10 c10 d10 e10 f10 g10
  obtain ⟨⟨a12, b12, c12, d12, e12, f12, g12⟩, h12⟩ := ret_part12 (F := F) v16 a11 b11 c11 d11 e11 f11 g11
  obtain ⟨⟨a13, b13, c13, d13, e13, f13, g13⟩, h13⟩ := ret_part13 (F := F) v16 a12 b12 c12 d12 e12 f12 g12
  obtain ⟨T, h14⟩ := ret_part14 (F := F) v16 a13 b13 c13 d13 e13 f13 g13
  refine ⟨T, fun i arg2 harg2 arg3 harg3 arg4 harg4 arg5 harg5 arg6 harg6 α k => ?_⟩
  unfold chain
  rw [h2, show ∀ (β γ : Type) (x : β) (f : β → Prog (TpuEff nD τ sig (Elt F) (Λ₀ F) .tc) γ), (Prog.ret x >>= f) = f x from fun _ _ _ _ => rfl]; dsimp only
  rw [h3, show ∀ (β γ : Type) (x : β) (f : β → Prog (TpuEff nD τ sig (Elt F) (Λ₀ F) .tc) γ), (Prog.ret x >>= f) = f x from fun _ _ _ _ => rfl]; dsimp only
  rw [h4, show ∀ (β γ : Type) (x : β) (f : β → Prog (TpuEff nD τ sig (Elt F) (Λ₀ F) .tc) γ), (Prog.ret x >>= f) = f x from fun _ _ _ _ => rfl]; dsimp only
  rw [h5, show ∀ (β γ : Type) (x : β) (f : β → Prog (TpuEff nD τ sig (Elt F) (Λ₀ F) .tc) γ), (Prog.ret x >>= f) = f x from fun _ _ _ _ => rfl]; dsimp only
  rw [h6, show ∀ (β γ : Type) (x : β) (f : β → Prog (TpuEff nD τ sig (Elt F) (Λ₀ F) .tc) γ), (Prog.ret x >>= f) = f x from fun _ _ _ _ => rfl]; dsimp only
  rw [h7, show ∀ (β γ : Type) (x : β) (f : β → Prog (TpuEff nD τ sig (Elt F) (Λ₀ F) .tc) γ), (Prog.ret x >>= f) = f x from fun _ _ _ _ => rfl]; dsimp only
  rw [h8, show ∀ (β γ : Type) (x : β) (f : β → Prog (TpuEff nD τ sig (Elt F) (Λ₀ F) .tc) γ), (Prog.ret x >>= f) = f x from fun _ _ _ _ => rfl]; dsimp only
  rw [h9, show ∀ (β γ : Type) (x : β) (f : β → Prog (TpuEff nD τ sig (Elt F) (Λ₀ F) .tc) γ), (Prog.ret x >>= f) = f x from fun _ _ _ _ => rfl]; dsimp only
  rw [h10, show ∀ (β γ : Type) (x : β) (f : β → Prog (TpuEff nD τ sig (Elt F) (Λ₀ F) .tc) γ), (Prog.ret x >>= f) = f x from fun _ _ _ _ => rfl]; dsimp only
  rw [h11, show ∀ (β γ : Type) (x : β) (f : β → Prog (TpuEff nD τ sig (Elt F) (Λ₀ F) .tc) γ), (Prog.ret x >>= f) = f x from fun _ _ _ _ => rfl]; dsimp only
  rw [h12, show ∀ (β γ : Type) (x : β) (f : β → Prog (TpuEff nD τ sig (Elt F) (Λ₀ F) .tc) γ), (Prog.ret x >>= f) = f x from fun _ _ _ _ => rfl]; dsimp only
  rw [h13, show ∀ (β γ : Type) (x : β) (f : β → Prog (TpuEff nD τ sig (Elt F) (Λ₀ F) .tc) γ), (Prog.ret x >>= f) = f x from fun _ _ _ _ => rfl]; dsimp only
  rw [h14, show ∀ (β γ : Type) (x : β) (f : β → Prog (TpuEff nD τ sig (Elt F) (Λ₀ F) .tc) γ), (Prog.ret x >>= f) = f x from fun _ _ _ _ => rfl]

/-- The word the stretch leaves. -/
def cand (v16 : FVec F S128x8192 .f32) (v28 : FVec F S128x128 .f32) (v30 : FVec F S128x128 .f32) (v32 : FVec F S128x128 .f32) (v34 : FVec F S128x128 .f32) (v36 : FVec F S128x128 .f32) (v38 : FVec F S128x128 .f32) (v39 : FVec F S128x128 .f32) : IVec S128x1 32 := (chain_ret (F := F) v16 v28 v30 v32 v34 v36 v38 v39).choose

theorem chain_cand (v16 : FVec F S128x8192 .f32) (v28 : FVec F S128x128 .f32) (v30 : FVec F S128x128 .f32) (v32 : FVec F S128x128 .f32) (v34 : FVec F S128x128 .f32) (v36 : FVec F S128x128 .f32) (v38 : FVec F S128x128 .f32) (v39 : FVec F S128x128 .f32) (i : grid0.Coords) (arg2 : Memref sig .tc .vmem S1x128x2 .f32) (harg2 : arg2.IsWhole) (arg3 : Memref sig .tc .vmem S1x2x8192 .f32) (harg3 : arg3.IsWhole) (arg4 : Memref sig .tc .vmem S1x8192x128 .f32) (harg4 : arg4.IsWhole) (arg5 : Memref sig .tc .vmem S1x1 .f32) (harg5 : arg5.IsWhole) (arg6 : Memref sig .tc .vmem S1x128x128 .f32) (harg6 : arg6.IsWhole) {α : Type}
    (k : IVec S128x1 32 → IVec S128x1 32 → IVec S128x1 32 → IVec S128x1 1 → IVec S128x1 1 → Prog (TpuEff nD τ sig (Elt F) (Λ₀ F) .tc) α) :
    chain v16 v28 v30 v32 v34 v36 v38 v39 i arg2 harg2 arg3 harg3 arg4 harg4 arg5 harg5 arg6 harg6 k = k (cand v16 v28 v30 v32 v34 v36 v38 v39) (k0_pay653 v16 (cand v16 v28 v30 v32 v34 v36 v38 v39)) (k0_pay654 v16 (cand v16 v28 v30 v32 v34 v36 v38 v39)) (k0_pay655 v16 (cand v16 v28 v30 v32 v34 v36 v38 v39)) (k0_pay656 v16 (cand v16 v28 v30 v32 v34 v36 v38 v39)) :=
  (chain_ret (F := F) v16 v28 v30 v32 v34 v36 v38 v39).choose_spec i arg2 harg2 arg3 harg3 arg4 harg4 arg5 harg5 arg6 harg6 k

end Cert.KernelIdeal.Own

end
-- ==== Proof.Search.lean ====
/-
  The two searches of the kernel, as functions on a pair of vectors of bounds.

  A search holds, for each of the 128 rows, a lower and an upper bound. While some row has its lower bound below its
  upper one, every row tests its middle and keeps one half. `go` takes a number of steps that are allowed and stops
  when no row is open. The number of steps allowed is bounded by the width: `Bnd k` says every width is at least `-1`
  and below `2 ^ k`; one step brings it to `Bnd (k - 1)`, and at `Bnd 0` no row is open.
-/
module

public import proofs.«01_k».proof.Proof.Straight
public import Idealize.ShloMosaic.Lib.SortNet.Extract
public import Idealize.ShloMosaic.Lib.Tactic
public import Mathlib.Tactic.Ring
public import Mathlib.Tactic.Abel
public import Mathlib.Data.BitVec

@[expose] public section

noncomputable section

namespace Cert.KernelIdeal.Own

open Cert.KernelIdeal Cert.KernelIdeal.Gen
open Idealize.ShloMosaic Idealize.ShloMosaic.TcCoe

variable {F : FTy → Type} [FloatOps F]

/-- A lower and an upper bound for every row. -/
abbrev Bounds := IVec S128x1 32 × IVec S128x1 32

/-- The searches' test: some row's lower bound is below its upper one. -/
def isOpen (s : Bounds) : BitVec 1 :=
  Scalar.cmpi .sgt (extractAt ![0, 0, 0] (k0_pay2 s.1 s.2) inpos_S1x1x1_p0_0_0) 0#32

/-- Row `p`'s width. -/
def width (s : Bounds) (p : S128x1.Idx) : ℤ := (s.2 p - s.1 p).toInt

/-- Row `p`'s middle. -/
def middle (s : Bounds) (p : S128x1.Idx) : BitVec 32 := s.1 p + (s.2 p - s.1 p).sshiftRight 1

/-- Every row's width is at least `-1` and below `2 ^ k`. -/
def Bnd (k : ℕ) (s : Bounds) : Prop := ∀ p, -1 ≤ width s p ∧ width s p < 2 ^ k

/-- One step of a search: the rows that pass move their upper bound, the others their lower one. -/
def halve (pass : S128x1.Idx → BitVec 1) (s : Bounds) : Bounds :=
  (fun p => if pass p = 1#1 then s.1 p else middle s p + 1#32, fun p => if pass p = 1#1 then middle s p else s.2 p)

/-- At most `k` steps of a search, stopping when no row is open. -/
def go (step : Bounds → Bounds) : ℕ → Bounds → Bounds
  | 0, s => s
  | k + 1, s => if isOpen s = 1#1 then go step k (step s) else s

/-- The step of the search for the threshold. -/
def step1 (v16 : FVec F S128x8192 .f32) (s : Bounds) : Bounds := (k0_pay5 v16 s.1 s.2, k0_pay6 v16 s.1 s.2)

/-- The step of the search for the last tied position. -/
def step2 (v837 : IVec S1x8192 32) (v833 : IVec S128x8192 1) (v835 : IVec S128x1 32) (s : Bounds) : Bounds :=
  (k0_pay10 v837 v833 v835 s.1 s.2, k0_pay11 v837 v833 v835 s.1 s.2)

theorem pay3_eq (s : Bounds) (p : S128x1.Idx) : k0_pay3 s.1 s.2 p = middle s p := rfl

theorem pay8_eq (s : Bounds) (p : S128x1.Idx) : k0_pay8 s.1 s.2 p = middle s p := rfl

theorem step1_eq (v16 : FVec F S128x8192 .f32) (s : Bounds) : step1 v16 s = halve (k0_pay4 v16 s.1 s.2) s := rfl

theorem step2_eq (v837 : IVec S1x8192 32) (v833 : IVec S128x8192 1) (v835 : IVec S128x1 32) (s : Bounds) :
    step2 v837 v833 v835 s = halve (k0_pay9 v837 v833 v835 s.1 s.2) s := rfl

/-- What holds before and is kept by a step holds after the search. -/
theorem go_inv {step : Bounds → Bounds} (P : Bounds → Prop) (hstep : ∀ s, P s → P (step s)) (k : ℕ) :
    ∀ s, P s → P (go step k s) := by
  induction k with
  | zero => intro s h; exact h
  | succ k ih =>
      intro s h
      rw [go]
      split
      · exact ih _ (hstep _ h)
      · exact h

/-- A word's halved width, as an integer. -/
theorem toInt_half (w : BitVec 32) : (w.sshiftRight 1).toInt = w.toInt / 2 := by
  rw [BitVec.toInt_sshiftRight, Int.shiftRight_eq_div_pow]
  rfl

/-- The widths after a step at a row. -/
theorem width_halve (pass : S128x1.Idx → BitVec 1) (s : Bounds) (p : S128x1.Idx) (h : -1 ≤ width s p) :
    width (halve pass s) p = width s p / 2 ∨ width (halve pass s) p = width s p - width s p / 2 - 1 := by
  unfold width halve middle
  unfold width at h
  dsimp only
  generalize s.2 p = y at *
  generalize s.1 p = x at *
  have hlt : (y - x).toInt < 2147483648 := BitVec.toInt_lt
  split
  · left
    rw [show x + (y - x).sshiftRight 1 - x = (y - x).sshiftRight 1 by ring, toInt_half]
  · right
    rw [show y - (x + (y - x).sshiftRight 1 + 1#32) = (y - x) - (y - x).sshiftRight 1 - 1#32 by
      have : (1#32 : BitVec 32) = 1 := rfl
      rw [this]; ring]
    generalize y - x = w at *
    have h1 : (w - w.sshiftRight 1).toInt = w.toInt - w.toInt / 2 := by
      rw [BitVec.toInt_sub, toInt_half]
      exact Int.bmod_eq_of_le (by omega) (by omega)
    rw [BitVec.toInt_sub, h1]
    exact Int.bmod_eq_of_le (by norm_num; omega) (by norm_num; omega)

/-- A step halves the bound on the widths. -/
theorem bnd_halve (pass : S128x1.Idx → BitVec 1) (s : Bounds) (k : ℕ) (h : Bnd (k + 1) s) : Bnd k (halve pass s) := by
  intro p
  obtain ⟨h1, h2⟩ := h p
  have := width_halve pass s p h1
  rw [pow_succ] at h2
  rcases this with e | e <;> rw [e] <;> constructor <;> omega

theorem bnd_step1 (v16 : FVec F S128x8192 .f32) (s : Bounds) (k : ℕ) (h : Bnd (k + 1) s) :
    Bnd k (k0_pay5 v16 s.1 s.2, k0_pay6 v16 s.1 s.2) := bnd_halve (k0_pay4 v16 s.1 s.2) s k h

theorem bnd_step2 (v837 : IVec S1x8192 32) (v833 : IVec S128x8192 1) (v835 : IVec S128x1 32) (s : Bounds) (k : ℕ)
    (h : Bnd (k + 1) s) : Bnd k (k0_pay10 v837 v833 v835 s.1 s.2, k0_pay11 v837 v833 v835 s.1 s.2) :=
  bnd_halve (k0_pay9 v837 v833 v835 s.1 s.2) s k h

/-- The test passes exactly when a row is open. -/
theorem isOpen_iff (s : Bounds) : isOpen s = 1#1 ↔ ∃ p, 0 < width s p := by
  have hx : extractAt ![0, 0, 0] (k0_pay2 s.1 s.2) inpos_S1x1x1_p0_0_0
      = (Finset.univ : Finset S1x128x1.Idx).fold (IKind.op .maxsi) (2147483648#32)
          (fun i => subi s.2 s.1 (Shape.reshapeEquiv shapeCasts_S128x1_S1x128x1 i)) := by
    unfold k0_pay2 extractAt
    dsimp only
    simp only [shapeCast]
    refine (multiReductionI_eq_fold _ _ _ _ _ _).trans ?_
    refine congrArg (Finset.fold _ _ _) ?_
    refine Finset.filter_true_of_mem fun i _ => ?_
    funext a
    have : ∀ x y : Fin (S1.size a), x = y := by
      intro x y
      have h1 : S1.size a = 1 := by fin_cases a; rfl
      exact Fin.ext (by have := x.2; have := y.2; omega)
    exact this _ _
  have h0 := Idealize.ShloMosaic.SortNet.fold_maxsi_spec
    (fun i => subi s.2 s.1 (Shape.reshapeEquiv shapeCasts_S128x1_S1x128x1 i)) Finset.univ (2147483648#32)
  have hy : isOpen s = BitVec.ofBool ((0#32).slt ((Finset.univ : Finset S1x128x1.Idx).fold IntOp.maxsi (2147483648#32)
      (fun i => subi s.2 s.1 (Shape.reshapeEquiv shapeCasts_S128x1_S1x128x1 i)))) := by
    unfold isOpen
    rw [hx]
    rfl
  rw [hy]
  generalize Finset.fold IntOp.maxsi (2147483648#32)
      (fun i => subi s.2 s.1 (Shape.reshapeEquiv shapeCasts_S128x1_S1x128x1 i)) Finset.univ = M at h0
  obtain ⟨-, h1, h2⟩ := h0
  have hb : BitVec.ofBool ((0#32).slt M) = 1#1 ↔ 0 < M.toInt := by
    rw [BitVec.slt_eq_decide]
    by_cases h : 0 < M.toInt <;> simp [h]
  rw [hb]
  constructor
  · intro h
    rcases h2 with e | ⟨i, -, e⟩
    · rw [e] at h
      exact absurd h (by decide)
    · exact ⟨_, e ▸ h⟩
  · rintro ⟨p, hp⟩
    have := h1 ((Shape.reshapeEquiv shapeCasts_S128x1_S1x128x1).symm p) (Finset.mem_univ _)
    rw [Equiv.apply_symm_apply] at this
    exact lt_of_lt_of_le hp this

/-- Widths below one: no row is open. -/
theorem not_isOpen_of_bnd {s : Bounds} (h : Bnd 0 s) : ¬ isOpen s = 1#1 := by
  rw [isOpen_iff]
  rintro ⟨p, hp⟩
  have := (h p).2
  norm_num at this
  omega

/-- A search given enough steps ends with no row open. -/
theorem go_closed {step : Bounds → Bounds} (hstep : ∀ s k, Bnd (k + 1) s → Bnd k (step s)) (k : ℕ) :
    ∀ s, Bnd k s → ∀ p, width (go step k s) p ≤ 0 := by
  induction k with
  | zero => intro s h p; have := (h p).2; norm_num at this; rw [go]; omega
  | succ k ih =>
      intro s h p
      rw [go]
      split
      · exact ih _ (hstep _ _ h) p
      · next hc =>
        rw [isOpen_iff] at hc
        exact not_lt.mp fun hp => hc ⟨p, hp⟩

/-- Bounds with widths below `2 ^ k` are below `2 ^ (k + 1)` too. -/
theorem Bnd.mono {k : ℕ} {s : Bounds} (h : Bnd k s) : Bnd (k + 1) s := fun p =>
  ⟨(h p).1, by have h1 := h p; rw [pow_succ]; omega⟩

/-- The search for the threshold starts with widths `0` or `0x7F7FFFFF`. -/
theorem bnd_start1 (T : IVec S128x1 32) (a b : IVec S128x1 1) : Bnd 31 (k0_pay658 T a b, k0_pay659 T a b) := by
  intro p
  have h : width (k0_pay658 T a b, k0_pay659 T a b) p = 0 ∨ width (k0_pay658 T a b, k0_pay659 T a b) p = 2139095039 := by
    unfold width
    by_cases hv : k0_pay657 a b p = 1#1
    · left
      have e1 : k0_pay658 T a b p = T p := if_pos hv
      have e2 : k0_pay659 T a b p = T p := if_pos hv
      simp only [e1, e2, BitVec.sub_self]
      rfl
    · right
      have e1 : k0_pay658 T a b p = 0#32 := if_neg hv
      have e2 : k0_pay659 T a b p = 2139095039#32 := if_neg hv
      simp only [e1, e2]
      rfl
  rcases h with h | h <;> rw [h] <;> exact ⟨by decide, by decide⟩

/-- The search for the last tied position starts with widths `0` or `8191`. -/
theorem bnd_start2 (v16 : FVec F S128x8192 .f32) (t n1 n2 : IVec S128x1 32) :
    Bnd 13 (k0_pay670 v16 t n1 n2, k0_pay671 v16 t n1 n2) := by
  intro p
  have h : width (k0_pay670 v16 t n1 n2, k0_pay671 v16 t n1 n2) p = 0
      ∨ width (k0_pay670 v16 t n1 n2, k0_pay671 v16 t n1 n2) p = 8191 := by
    unfold width
    by_cases hv : k0_pay669 n1 n2 p = 1#1
    · right
      have e1 : k0_pay670 v16 t n1 n2 p = 0#32 := if_pos hv
      have e2 : k0_pay671 v16 t n1 n2 p = 8191#32 := if_pos hv
      simp only [e1, e2]
      rfl
    · left
      have e1 : k0_pay670 v16 t n1 n2 p = k0_pay668 v16 t n1 n2 p := if_neg hv
      have e2 : k0_pay671 v16 t n1 n2 p = k0_pay668 v16 t n1 n2 p := if_neg hv
      simp only [e1, e2, BitVec.sub_self]
      rfl
  rcases h with h | h <;> rw [h] <;> exact ⟨by decide, by decide⟩

end Cert.KernelIdeal.Own
-- ==== Proof.Body.lean ====
/-
  The kernel's body at one grid point: what it leaves in the result's buffer, as a function of the five input blocks,
  and its triple.

  The two searches are recursive functions of the body table; each is answered by the value `go` gives, by induction on
  the number of steps allowed. The straight stretch between the loads and the searches returns some word per row and
  that word's counts (`chain_cand`). The branch of the conditional is read from the word's counts.
-/
module

public import proofs.«01_k».proof.Proof.Search
public import proofs.«01_k».proof.Proof.Gen.KernelIdeal.Launch
public import proofs.«01_k».proof.Proof.Gen.KernelIdeal.Points
public import Idealize.ShloMosaic.Lib.Tactic
public import Idealize.ShloMosaic.Lib.Claim
public import Idealize.ShloMosaic.Lib.Pipeline.Frame
public import Idealize.ShloMosaic.Lib.Pipeline.FrameBody

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The searches' steps left are natural numbers. -/
abbrev 𝒱₀ : Variants := Variants.nat

/-! ### What the body computes -/

/-- The upper bounds of a pair of bounds. -/
def upper (s : Bounds) : IVec S128x1 32 := s.2

theorem upper_eq (s : Bounds) : upper s = s.2 := rfl

/-- The threshold word of every row: the straight stretch's word where its counts agree, searched for elsewhere. -/
def thr (v16 : FVec F S128x8192 .f32) (T : IVec S128x1 32) : IVec S128x1 32 :=
  upper (go (step1 v16) 31
    (k0_pay658 T (k0_pay655 v16 T) (k0_pay656 v16 T), k0_pay659 T (k0_pay655 v16 T) (k0_pay656 v16 T)))

/-- The mask of the conditional: some row's word was searched for. -/
def someOpen (v16 : FVec F S128x8192 .f32) (T : IVec S128x1 32) : BitVec 1 :=
  Scalar.cmpf .ogt (k0_pay661 (F := F) (k0_pay655 v16 T) (k0_pay656 v16 T)) (Scalar.ofBits .f32 0x00000000#32)

/-- The conditional's test. -/
def test (v16 : FVec F S128x8192 .f32) (T : IVec S128x1 32) : Prop :=
  Scalar.cmpi .ne (Scalar.extui (someOpen v16 T) : BitVec 32) 0#32 = 1#1

/-- The conditional's counts: counted again when some row's word was searched for, else the straight stretch's. -/
def counts (v16 : FVec F S128x8192 .f32) (T : IVec S128x1 32) : Bounds :=
  open Classical in if test v16 T
    then (k0_pay662 v16 (thr v16 T), k0_pay663 v16 (thr v16 T)) else (k0_pay653 v16 T, k0_pay654 v16 T)

/-- The positions along a row. -/
def pos : IVec S1x8192 32 := iota .tc S1x8192 32 [1] iota_S1x8192_d1_w32

/-- The last position kept among those at the threshold. -/
def lastPos (v16 : FVec F S128x8192 .f32) (t : IVec S128x1 32) (n : Bounds) : IVec S128x1 32 :=
  upper (go (step2 pos (k0_pay665 v16 t) (k0_pay666 n.1)) 13 (k0_pay670 v16 t n.1 n.2, k0_pay671 v16 t n.1 n.2))

/-- The block stored, from the distances, a word per row, the scale and the level's rows. -/
def stored (v16 : FVec F S128x8192 .f32) (T : IVec S128x1 32) (v861 : Vec F S1x1 .f32) (v869 : Vec F S1x8192x128 .f32) :
    FVec F S1x128x128 .f32 :=
  k0_pay1 v16 (k0_pay664 v16 (thr v16 T)) (k0_pay665 v16 (thr v16 T)) pos (lastPos v16 (thr v16 T) (counts v16 T)) v861 v869

abbrev rOx : Rect S1x128x2 := Rect.unit (s := S1x128x2) ![0, 0, 0] S1x128x1.size inb_S1x128x2_S1x128x1_0_0_0
abbrev rOy : Rect S1x128x2 := Rect.unit (s := S1x128x2) ![0, 0, 1] S1x128x1.size inb_S1x128x2_S1x128x1_0_0_1
abbrev rIx : Rect S1x2x8192 := Rect.unit (s := S1x2x8192) ![0, 0, 0] S1x1x8192.size inb_S1x2x8192_S1x1x8192_0_0_0
abbrev rIy : Rect S1x2x8192 := Rect.unit (s := S1x2x8192) ![0, 1, 0] S1x1x8192.size inb_S1x2x8192_S1x1x8192_0_1_0
abbrev rS : Rect S1x1 := Rect.unit (s := S1x1) ![0, 0] S1x1.size inb_S1x1_S1x1_0_0
abbrev rX : Rect S1x8192x128 := Rect.unit (s := S1x8192x128) ![0, 0, 0] S1x8192x128.size inb_S1x8192x128_S1x8192x128_0_0_0
abbrev rR : Rect S1x128x128 := Rect.unit (s := S1x128x128) ![0, 0, 0] S1x128x128.size inb_S1x128x128_S1x128x128_0_0_0

/-- The distances of the block's rows. -/
def dist (x0 : Vec F S1x128x2 .f32) (x1 : Vec F S1x2x8192 .f32) : FVec F S128x8192 .f32 :=
  k0_pay12 (View.ld x0 rOx) (View.ld x0 rOy) (View.ld x1 rIx) (View.ld x1 rIy)

/-- The straight stretch's word, from the blocks of coordinates. -/
def word (v0 v2 : Vec F S1x128x1 .f32) (v4 v6 : Vec F S1x1x8192 .f32) : IVec S128x1 32 :=
  cand (k0_pay12 v0 v2 v4 v6) (k0_pay23 v0 v2 v4 v6) (k0_pay25 v0 v2 v4 v6) (k0_pay27 v0 v2 v4 v6) (k0_pay28 v0 v2 v4 v6)
    (k0_pay30 v0 v2 v4 v6) (k0_pay32 v0 v2 v4 v6) (k0_pay33 v0 v2 v4 v6)

/-- The result's buffer after the body: one store over all of it. -/
def out (x0 : Vec F S1x128x2 .f32) (x1 : Vec F S1x2x8192 .f32) (x2 : Vec F S1x8192x128 .f32) (x3 : Vec F S1x1 .f32) :
    Vec F S1x128x128 .f32 :=
  View.canon [⟨rR, stored (dist x0 x1) (word (View.ld x0 rOx) (View.ld x0 rOy) (View.ld x1 rIx) (View.ld x1 rIy))
    (View.ld x3 rS) (View.ld x2 rX)⟩]

theorem cover_out (p : Vec F S1x128x128 .f32) (y : S1x128x128.Idx) :
    ∃ pc ∈ ([⟨rR, p⟩] : List (View.Piece (Elt F) S1x128x128 .f32)), y ∈ pc.1.set :=
  View.cover_of_tiled [⟨rR, p⟩] S1x128x128.size (by rfl) y

/-! ### The searches' labels -/

/-- A search returns `r`: its specification. -/
def answer (r : Bounds) : sWPT 𝕄 Bounds := pure r

theorem answer_apply (r : Bounds) (K : Bounds → sProp 𝕄) : answer (F := F) r K = K r := rfl

theorem row1 (i : grid0.Coords) (v16 : FVec F S128x8192 .f32) (lo hi : IVec S128x1 32) :
    defs₀ (F := F) .tc 1 ⟨i, v16, lo, hi⟩ = cc0_while1_skel i v16 lo hi := by
  unfold defs₀; rw [Defs.onTc_tc]; exact congrFun (congrFun (congrFun (congrFun cc0_while1_eq_skeleton i) v16) lo) hi

theorem row2 (i : grid0.Coords) (b : BitVec 1) (v837 : IVec S1x8192 32) (v833 : IVec S128x8192 1)
    (v835 lo hi : IVec S128x1 32) :
    defs₀ (F := F) .tc 2 ⟨i, b, v837, v833, v835, lo, hi⟩ = cc0_while2_skel i b v837 v833 v835 lo hi := by
  unfold defs₀; rw [Defs.onTc_tc]
  exact congrFun (congrFun (congrFun (congrFun (congrFun (congrFun (congrFun cc0_while2_eq_skeleton i) b) v837) v833) v835) lo) hi

/-- A call of the first search, answered by the value its body returns at a smaller number of steps. -/
theorem call1 (d : Defs nD τ sig (Elt F) (Λ₀ F)) (c : Dev nD) (E : Set ℕ) (bd : Option ℕ) (n : ℕ) (hn : ∀ u ∈ bd, n < u) (i : grid0.Coords)
    (v16 : FVec F S128x8192 .f32) (lo hi : IVec S128x1 32) (r : Bounds)
    (h : ∀ K, answer (F := F) r K
      ⊢ wp frame (wpE d 𝒱₀ (c : Thread nD τ) (some n)) E (d .tc 1 ⟨i, v16, lo, hi⟩) K)
    {α : Type} (k : Bounds → Prog (TpuEff nD τ sig (Elt F) (Λ₀ F) .tc) α) (Q : α → sProp 𝕄) :
    wp frame (wpE d 𝒱₀ (c : Thread nD τ) bd) E (k r) Q
      ⊢ wp frame (wpE d 𝒱₀ (c : Thread nD τ) bd) E
          (.op (.call (1 : (Λ₀ F).Label) ⟨i, v16, lo, hi⟩) k) Q :=
  wp_call_spec (defs := d) (ℓ := (1 : (Λ₀ F).Label)) (a := (⟨i, v16, lo, hi⟩ : Cc0While1 F)) 𝒱₀ (c : Thread nD τ) bd E
    (answer (F := F) r) n hn h

/-- A call of the second search, likewise. -/
theorem call2 (d : Defs nD τ sig (Elt F) (Λ₀ F)) (c : Dev nD) (E : Set ℕ) (bd : Option ℕ) (n : ℕ) (hn : ∀ u ∈ bd, n < u) (i : grid0.Coords)
    (b : BitVec 1) (v837 : IVec S1x8192 32) (v833 : IVec S128x8192 1)
    (v835 : IVec S128x1 32) (lo hi : IVec S128x1 32) (r : Bounds)
    (h : ∀ K, answer (F := F) r K
      ⊢ wp frame (wpE d 𝒱₀ (c : Thread nD τ) (some n)) E
          (d .tc 2 ⟨i, b, v837, v833, v835, lo, hi⟩) K)
    {α : Type} (k : Bounds → Prog (TpuEff nD τ sig (Elt F) (Λ₀ F) .tc) α) (Q : α → sProp 𝕄) :
    wp frame (wpE d 𝒱₀ (c : Thread nD τ) bd) E (k r) Q
      ⊢ wp frame (wpE d 𝒱₀ (c : Thread nD τ) bd) E
          (.op (.call (2 : (Λ₀ F).Label) ⟨i, b, v837, v833, v835, lo, hi⟩) k) Q :=
  wp_call_spec (defs := d) (ℓ := (2 : (Λ₀ F).Label)) (a := (⟨i, b, v837, v833, v835, lo, hi⟩ : Cc0While2 F)) 𝒱₀
    (c : Thread nD τ) bd E (answer (F := F) r) n hn h

/-- The first search, entered with `k` steps left, returns what `go` gives. -/
theorem search1 (d : Defs nD τ sig (Elt F) (Λ₀ F))
    (hd : ∀ i v16 lo hi, d .tc 1 ⟨i, v16, lo, hi⟩ = cc0_while1_skel i v16 lo hi) (c : Dev nD) (E : Set ℕ) (i : grid0.Coords) (v16 : FVec F S128x8192 .f32) :
    ∀ k (s : Bounds), Bnd k s → ∀ K, answer (F := F) (go (step1 v16) k s) K
      ⊢ wp frame (wpE d 𝒱₀ (c : Thread nD τ) (some k)) E (d .tc 1 ⟨i, v16, s.1, s.2⟩) K := by
  intro k
  induction k with
  | zero =>
    intro s hs K
    rw [hd]
    unfold cc0_while1_skel
    have htest : ¬ Scalar.cmpi .sgt (extractAt ![0, 0, 0] (k0_pay2 s.1 s.2) inpos_S1x1x1_p0_0_0) 0#32 = 1#1 :=
      not_isOpen_of_bnd hs
    simp only [htest, ↓reduceIte, Prog.pure_eq_ret]
    rw [answer_apply]
    iintro H
    rw [wp_ret]; imodintro
    rw [show go _ 0 s = (s.1, s.2) from rfl]
    iexact H
  | succ k ih =>
    intro s hs K
    rw [hd]
    unfold cc0_while1_skel
    rcases Classical.em (isOpen s = 1#1) with htest | htest
    · have ht' : Scalar.cmpi .sgt (extractAt ![0, 0, 0] (k0_pay2 s.1 s.2) inpos_S1x1x1_p0_0_0) 0#32 = 1#1 := htest
      simp only [ht', ↓reduceIte, Prog.lift]
      rw [go, if_pos htest]
      have hih := ih (k0_pay5 v16 s.1 s.2, k0_pay6 v16 s.1 s.2) (bnd_step1 v16 s k hs)
      dsimp only at hih
      refine BIBase.Entails.trans ?_ (call1 d c E (some (k + 1)) k (fun u hu => by cases hu; exact Nat.lt_succ_self k) i v16 _ _ _
        hih _ _)
      rw [answer_apply, show step1 v16 s = (k0_pay5 v16 s.1 s.2, k0_pay6 v16 s.1 s.2) from rfl]
      iintro H
      rw [wp_ret]; imodintro
      iexact H
    · have ht' : ¬ Scalar.cmpi .sgt (extractAt ![0, 0, 0] (k0_pay2 s.1 s.2) inpos_S1x1x1_p0_0_0) 0#32 = 1#1 := htest
      simp only [ht', ↓reduceIte, Prog.pure_eq_ret]
      rw [go, if_neg htest]
      rw [answer_apply]
      iintro H
      rw [wp_ret]; imodintro
      iexact H

/-- The second search, likewise. -/
theorem search2 (d : Defs nD τ sig (Elt F) (Λ₀ F))
    (hd : ∀ i b v837 v833 v835 lo hi, d .tc 2 ⟨i, b, v837, v833, v835, lo, hi⟩ = cc0_while2_skel i b v837 v833 v835 lo hi) (c : Dev nD) (E : Set ℕ) (i : grid0.Coords) (b : BitVec 1) (v837 : IVec S1x8192 32) (v833 : IVec S128x8192 1)
    (v835 : IVec S128x1 32) :
    ∀ k (s : Bounds), Bnd k s → ∀ K, answer (F := F) (go (step2 v837 v833 v835) k s) K
      ⊢ wp frame (wpE d 𝒱₀ (c : Thread nD τ) (some k)) E
          (d .tc 2 ⟨i, b, v837, v833, v835, s.1, s.2⟩) K := by
  intro k
  induction k with
  | zero =>
    intro s hs K
    rw [hd]
    unfold cc0_while2_skel
    have htest : ¬ Scalar.cmpi .sgt (extractAt ![0, 0, 0] (k0_pay7 s.1 s.2) inpos_S1x1x1_p0_0_0) 0#32 = 1#1 :=
      not_isOpen_of_bnd hs
    simp only [htest, ↓reduceIte, Prog.pure_eq_ret]
    rw [answer_apply]
    iintro H
    rw [wp_ret]; imodintro
    rw [show go _ 0 s = (s.1, s.2) from rfl]
    iexact H
  | succ k ih =>
    intro s hs K
    rw [hd]
    unfold cc0_while2_skel
    rcases Classical.em (isOpen s = 1#1) with htest | htest
    · have ht' : Scalar.cmpi .sgt (extractAt ![0, 0, 0] (k0_pay7 s.1 s.2) inpos_S1x1x1_p0_0_0) 0#32 = 1#1 := htest
      simp only [ht', ↓reduceIte, Prog.lift]
      rw [go, if_pos htest]
      have hih := ih (k0_pay10 v837 v833 v835 s.1 s.2, k0_pay11 v837 v833 v835 s.1 s.2) (bnd_step2 v837 v833 v835 s k hs)
      dsimp only at hih
      refine BIBase.Entails.trans ?_ (call2 d c E (some (k + 1)) k (fun u hu => by cases hu; exact Nat.lt_succ_self k) i b v837 v833 v835 _ _ _
        hih _ _)
      rw [answer_apply, show step2 v837 v833 v835 s = (k0_pay10 v837 v833 v835 s.1 s.2, k0_pay11 v837 v833 v835 s.1 s.2) from rfl]
      iintro H
      rw [wp_ret]; imodintro
      iexact H
    · have ht' : ¬ Scalar.cmpi .sgt (extractAt ![0, 0, 0] (k0_pay7 s.1 s.2) inpos_S1x1x1_p0_0_0) 0#32 = 1#1 := htest
      simp only [ht', ↓reduceIte, Prog.pure_eq_ret]
      rw [go, if_neg htest]
      rw [answer_apply]
      iintro H
      rw [wp_ret]; imodintro
      iexact H

/-! ### The body -/

/-- The body from the straight stretch's end: the searches, the loads of the scale and of the rows, the store. -/
def tailProg (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole) (v16 : FVec F S128x8192 .f32) (T : IVec S128x1 32) :
    Prog (TpuEff nD τ sig (Elt F) (Λ₀ F) .tc) PUnit :=
  k0_part15 i arg2 harg2 arg3 harg3 arg4 harg4 arg5 harg5 arg6 harg6
      v16 T (k0_pay653 v16 T) (k0_pay654 v16 T) (k0_pay655 v16 T) (k0_pay656 v16 T) >>= fun q =>
  Prog.lift (.load arg5 rS.toLoadRect (View.loadsAt_vmem h_S1x1)) >>= fun v861 =>
  Prog.lift (.load arg4 rX.toLoadRect (View.loadsAt_vmem h_S1x8192x128)) >>= fun v869 =>
  Prog.lift (.load arg6 rR.toLoadRect (View.loadsAt_vmem h_S1x128x128)) >>= fun v878 =>
  Prog.lift (.store arg6 rR (k0_pay1 v16 q.1 q.2.1 q.2.2.1 q.2.2.2 v861 v869) Finset.univ
    (View.stores_vmem_bits_univ h_S1x128x128 rfl) (.inl rfl)) >>= fun _ => pure ⟨⟩

/-- The body: its loads of the coordinates, the straight stretch, and the rest. -/
theorem body_eq (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole) :
    cc0__proj_body (F := F) i arg2 harg2 arg3 harg3 arg4 harg4 arg5 harg5 arg6 harg6
      = (k0_part1 i arg2 harg2 arg3 harg3 arg4 harg4 arg5 harg5 arg6 harg6 >>= fun p =>
          tailProg i arg2 harg2 arg3 harg3 arg4 harg4 arg5 harg5 arg6 harg6 p.1
            (cand p.1 p.2.1 p.2.2.1 p.2.2.2.1 p.2.2.2.2.1 p.2.2.2.2.2.1 p.2.2.2.2.2.2.1 p.2.2.2.2.2.2.2)) := by
  have h : cc0__proj_body (F := F) i arg2 harg2 arg3 harg3 arg4 harg4 arg5 harg5 arg6 harg6
      = (k0_part1 i arg2 harg2 arg3 harg3 arg4 harg4 arg5 harg5 arg6 harg6 >>= fun p =>
          chain p.1 p.2.1 p.2.2.1 p.2.2.2.1 p.2.2.2.2.1 p.2.2.2.2.2.1 p.2.2.2.2.2.2.1 p.2.2.2.2.2.2.2
            i arg2 harg2 arg3 harg3 arg4 harg4 arg5 harg5 arg6 harg6 fun T n1 n2 a b =>
          k0_part15 i arg2 harg2 arg3 harg3 arg4 harg4 arg5 harg5 arg6 harg6 p.1 T n1 n2 a b >>= fun q =>
          Prog.lift (.load arg5 rS.toLoadRect (View.loadsAt_vmem h_S1x1)) >>= fun v861 =>
          Prog.lift (.load arg4 rX.toLoadRect (View.loadsAt_vmem h_S1x8192x128)) >>= fun v869 =>
          Prog.lift (.load arg6 rR.toLoadRect (View.loadsAt_vmem h_S1x128x128)) >>= fun v878 =>
          Prog.lift (.store arg6 rR (k0_pay1 p.1 q.1 q.2.1 q.2.2.1 q.2.2.2 v861 v869) Finset.univ
            (View.stores_vmem_bits_univ h_S1x128x128 rfl) (.inl rfl)) >>= fun _ => pure ⟨⟩) := by
    rw [cc0__proj_body_eq_skeleton]
    rfl
  rw [h]
  refine congrArg (k0_part1 i arg2 harg2 arg3 harg3 arg4 harg4 arg5 harg5 arg6 harg6 >>= ·) (funext fun p => ?_)
  rw [chain_cand]
  rfl

/-- The branch of the conditional returns one of two values. -/
theorem ite_ret {α β : Type} (p : Prop) [Decidable p] (x y : α) (k : α → Prog (TpuEff nD τ sig (Elt F) (Λ₀ F) .tc) β) :
    ((if p then (Prog.ret x : Prog (TpuEff nD τ sig (Elt F) (Λ₀ F) .tc) α) else Prog.ret y) >>= k)
      = k (if p then x else y) := by
  split <;> rfl

/-- The body from the second search on, from the threshold words and the counts. -/
def lastProg (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole) (v16 : FVec F S128x8192 .f32) (b : BitVec 1) (t n1 n2 : IVec S128x1 32) :
    Prog (TpuEff nD τ sig (Elt F) (Λ₀ F) .tc) PUnit :=
  .op (.call (2 : (Λ₀ F).Label) ⟨i, b, pos, k0_pay665 v16 t, k0_pay666 n1, k0_pay670 v16 t n1 n2, k0_pay671 v16 t n1 n2⟩) fun r =>
  .op (.load arg5 rS.toLoadRect (View.loadsAt_vmem h_S1x1)) fun v861 =>
  .op (.load arg4 rX.toLoadRect (View.loadsAt_vmem h_S1x8192x128)) fun v869 =>
  .op (.load arg6 rR.toLoadRect (View.loadsAt_vmem h_S1x128x128)) fun v878 =>
  .op (.store arg6 rR (k0_pay1 v16 (k0_pay664 v16 t) (k0_pay665 v16 t) pos r.2 v861 v869) Finset.univ
    (View.stores_vmem_bits_univ h_S1x128x128 rfl) (.inl rfl)) fun _ => .ret ⟨⟩

/-- The rest of the body is the first search's call, then the branch of the conditional, then the second search on. -/
theorem tail_eq (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole) (v16 : FVec F S128x8192 .f32) (T : IVec S128x1 32) (inst : Decidable (test v16 T)) :
    tailProg i arg2 harg2 arg3 harg3 arg4 harg4 arg5 harg5 arg6 harg6 v16 T
      = .op (.call (1 : (Λ₀ F).Label) ⟨i, v16, k0_pay658 T (k0_pay655 v16 T) (k0_pay656 v16 T),
          k0_pay659 T (k0_pay655 v16 T) (k0_pay656 v16 T)⟩) fun r =>
        if test v16 T then
          lastProg i arg2 harg2 arg3 harg3 arg4 harg4 arg5 harg5 arg6 harg6 v16 (someOpen v16 T) r.2 (k0_pay662 v16 r.2) (k0_pay663 v16 r.2)
        else lastProg i arg2 harg2 arg3 harg3 arg4 harg4 arg5 harg5 arg6 harg6 v16 (someOpen v16 T) r.2 (k0_pay653 v16 T) (k0_pay654 v16 T) := by
  unfold tailProg
  simp only [k0_part15_eq_skeleton]
  unfold k0_part15_skel
  simp only [Prog.lift, Prog.bind_op, Prog.bind_ret, Prog.pure_eq_ret]
  refine congrArg _ (funext fun r => ?_)
  rcases Classical.em (test v16 T) with h | h
  · rw [if_pos h]
    have h' := h
    unfold test someOpen at h'
    rw [if_pos h']
    rfl
  · rw [if_neg h]
    have h' := h
    unfold test someOpen at h'
    rw [if_neg h']
    rfl

theorem sound_last (d : Defs nD τ sig (Elt F) (Λ₀ F))
    (hd1 : ∀ i v16 lo hi, d .tc 1 ⟨i, v16, lo, hi⟩ = cc0_while1_skel i v16 lo hi)
    (hd2 : ∀ i b v837 v833 v835 lo hi, d .tc 2 ⟨i, b, v837, v833, v835, lo, hi⟩ = cc0_while2_skel i b v837 v833 v835 lo hi)
    (c : Dev nD) (E : Set ℕ) (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole)
    (x2 : Vec F S1x8192x128 .f32) (x3 : Vec F S1x1 .f32) (v16 : FVec F S128x8192 .f32) (b : BitVec 1) (t n1 n2 : IVec S128x1 32)
    (K : PUnit → sProp 𝕄) :
    iprop(owns (c : Thread nD τ) arg4 fullShare x2 ∗ owns (c : Thread nD τ) arg5 fullShare x3
        ∗ (∃ d, owns (c : Thread nD τ) arg6 fullShare d)
        ∗ (iprop(owns (c : Thread nD τ) arg4 fullShare x2 ∗ owns (c : Thread nD τ) arg5 fullShare x3
            ∗ owns (c : Thread nD τ) arg6 fullShare
                (View.canon [⟨rR, k0_pay1 v16 (k0_pay664 v16 t) (k0_pay665 v16 t) pos (lastPos v16 t (n1, n2)) (View.ld x3 rS)
                  (View.ld x2 rX)⟩])) -∗ K ⟨⟩))
      ⊢ wp frame (wpE d 𝒱₀ (c : Thread nD τ) none) E (lastProg i arg2 harg2 arg3 harg3 arg4 harg4 arg5 harg5 arg6 harg6 v16 b t n1 n2) K := by
  unfold lastProg
  refine BIBase.Entails.trans ?_ (call2 d c E none 13 (fun u hu => nomatch hu) i b pos
    (k0_pay665 v16 t) (k0_pay666 n1) (k0_pay670 v16 t n1 n2) (k0_pay671 v16 t n1 n2) _
    (search2 d hd2 c E i b pos (k0_pay665 v16 t) (k0_pay666 n1) 13 (k0_pay670 v16 t n1 n2, k0_pay671 v16 t n1 n2)
      (bnd_start2 v16 t n1 n2)) _ _)
  have e : upper (go (step2 pos (k0_pay665 v16 t) (k0_pay666 n1)) 13 (k0_pay670 v16 t n1 n2, k0_pay671 v16 t n1 n2))
    = lastPos v16 t (n1, n2) := rfl
  rw [← upper_eq, e]
  generalize lastPos v16 t (n1, n2) = l
  unfold owns
  iintro ⟨⟨%f2, %hf2, H2⟩, ⟨%f3, %hf3, H3⟩, ⟨%d4, %f4, -, H4⟩, Hk⟩
  subst hf2 hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The rest of the body, holding the scale's and the rows' buffers and the result's at anything. -/
theorem sound_tail_of (d : Defs nD τ sig (Elt F) (Λ₀ F))
    (hd1 : ∀ i v16 lo hi, d .tc 1 ⟨i, v16, lo, hi⟩ = cc0_while1_skel i v16 lo hi)
    (hd2 : ∀ i b v837 v833 v835 lo hi, d .tc 2 ⟨i, b, v837, v833, v835, lo, hi⟩ = cc0_while2_skel i b v837 v833 v835 lo hi)
    (c : Dev nD) (E : Set ℕ) (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole)
    (x2 : Vec F S1x8192x128 .f32) (x3 : Vec F S1x1 .f32) (v16 : FVec F S128x8192 .f32) (T : IVec S128x1 32)
    (r : Bounds) (hr : thr v16 T = r.2)
    (hs : ∀ K, answer (F := F) r K ⊢ wp frame (wpE d 𝒱₀ (c : Thread nD τ) (some 31)) E
      (d .tc 1 ⟨i, v16, k0_pay658 T (k0_pay655 v16 T) (k0_pay656 v16 T), k0_pay659 T (k0_pay655 v16 T) (k0_pay656 v16 T)⟩) K)
    (K : PUnit → sProp 𝕄) :
    iprop(owns (c : Thread nD τ) arg4 fullShare x2 ∗ owns (c : Thread nD τ) arg5 fullShare x3
        ∗ (∃ d, owns (c : Thread nD τ) arg6 fullShare d)
        ∗ (iprop(owns (c : Thread nD τ) arg4 fullShare x2 ∗ owns (c : Thread nD τ) arg5 fullShare x3
            ∗ owns (c : Thread nD τ) arg6 fullShare
                (View.canon [⟨rR, stored v16 T (View.ld x3 rS) (View.ld x2 rX)⟩])) -∗ K ⟨⟩))
      ⊢ wp frame (wpE d 𝒱₀ (c : Thread nD τ) none) E (tailProg i arg2 harg2 arg3 harg3 arg4 harg4 arg5 harg5 arg6 harg6 v16 T) K := by
  rw [tail_eq _ _ _ _ _ _ _ _ _ _ _ v16 T (Classical.propDecidable _)]
  refine BIBase.Entails.trans ?_ (call1 d c E none 31 (fun u hu => nomatch hu) i v16
    (k0_pay658 T (k0_pay655 v16 T) (k0_pay656 v16 T)) (k0_pay659 T (k0_pay655 v16 T) (k0_pay656 v16 T)) _
    hs _ _)
  rw [← hr]
  rcases Classical.em (test v16 T) with h | h
  · rw [if_pos h]
    have e : counts v16 T = (k0_pay662 v16 (thr v16 T), k0_pay663 v16 (thr v16 T)) := if_pos h
    unfold stored
    rw [e]
    exact sound_last d hd1 hd2 c E i arg2 harg2 arg3 harg3 arg4 harg4 arg5 harg5 arg6 harg6 x2 x3 v16 _ _ _ _ K
  · rw [if_neg h]
    have e : counts v16 T = (k0_pay653 v16 T, k0_pay654 v16 T) := if_neg h
    unfold stored
    rw [e]
    exact sound_last d hd1 hd2 c E i arg2 harg2 arg3 harg3 arg4 harg4 arg5 harg5 arg6 harg6 x2 x3 v16 _ _ _ _ K

theorem thr_eq (v16 : FVec F S128x8192 .f32) (T : IVec S128x1 32) :
    thr v16 T = upper (go (step1 v16) 31 (k0_pay658 T (k0_pay655 v16 T) (k0_pay656 v16 T),
      k0_pay659 T (k0_pay655 v16 T) (k0_pay656 v16 T))) := rfl

theorem sound_tail (d : Defs nD τ sig (Elt F) (Λ₀ F))
    (hd1 : ∀ i v16 lo hi, d .tc 1 ⟨i, v16, lo, hi⟩ = cc0_while1_skel i v16 lo hi)
    (hd2 : ∀ i b v837 v833 v835 lo hi, d .tc 2 ⟨i, b, v837, v833, v835, lo, hi⟩ = cc0_while2_skel i b v837 v833 v835 lo hi)
    (c : Dev nD) (E : Set ℕ) (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole)
    (x2 : Vec F S1x8192x128 .f32) (x3 : Vec F S1x1 .f32) (v16 : FVec F S128x8192 .f32) (T : IVec S128x1 32)
    (K : PUnit → sProp 𝕄) :
    iprop(owns (c : Thread nD τ) arg4 fullShare x2 ∗ owns (c : Thread nD τ) arg5 fullShare x3
        ∗ (∃ d, owns (c : Thread nD τ) arg6 fullShare d)
        ∗ (iprop(owns (c : Thread nD τ) arg4 fullShare x2 ∗ owns (c : Thread nD τ) arg5 fullShare x3
            ∗ owns (c : Thread nD τ) arg6 fullShare
                (View.canon [⟨rR, stored v16 T (View.ld x3 rS) (View.ld x2 rX)⟩])) -∗ K ⟨⟩))
      ⊢ wp frame (wpE d 𝒱₀ (c : Thread nD τ) none) E (tailProg i arg2 harg2 arg3 harg3 arg4 harg4 arg5 harg5 arg6 harg6 v16 T) K := by
  exact sound_tail_of d hd1 hd2 c E i arg2 harg2 arg3 harg3 arg4 harg4 arg5 harg5 arg6 harg6 x2 x3 v16 T _ ((thr_eq v16 T).trans (upper_eq _))
    (search1 d hd1 c E i v16 31 (k0_pay658 T (k0_pay655 v16 T) (k0_pay656 v16 T),
      k0_pay659 T (k0_pay655 v16 T) (k0_pay656 v16 T)) (bnd_start1 T (k0_pay655 v16 T) (k0_pay656 v16 T))) K

/-- The loads of the coordinates, before any continuation. -/
theorem sound_loads (d : Defs nD τ sig (Elt F) (Λ₀ F)) (c : Dev nD) (E : Set ℕ)
    (arg2 : Memref sig .tc .vmem S1x128x2 .f32) (arg3 : Memref sig .tc .vmem S1x2x8192 .f32)
    (x0 : Vec F S1x128x2 .f32) (x1 : Vec F S1x2x8192 .f32)
    (g : Vec F S1x128x1 .f32 → Vec F S1x128x1 .f32 → Vec F S1x1x8192 .f32 → Vec F S1x1x8192 .f32 →
      Prog (TpuEff nD τ sig (Elt F) (Λ₀ F) .tc) PUnit) (K : PUnit → sProp 𝕄) :
    iprop(owns (c : Thread nD τ) arg2 fullShare x0 ∗ owns (c : Thread nD τ) arg3 fullShare x1
        ∗ (iprop(owns (c : Thread nD τ) arg2 fullShare x0 ∗ owns (c : Thread nD τ) arg3 fullShare x1) -∗
            wp frame (wpE d 𝒱₀ (c : Thread nD τ) none) E
              (g (View.ld x0 rOx) (View.ld x0 rOy) (View.ld x1 rIx) (View.ld x1 rIy)) K))
      ⊢ wp frame (wpE d 𝒱₀ (c : Thread nD τ) none) E
          (.op (.load arg2 rOx.toLoadRect (View.loadsAt_vmem h_S1x128x1)) fun v0 =>
           .op (.load arg2 rOy.toLoadRect (View.loadsAt_vmem h_S1x128x1)) fun v2 =>
           .op (.load arg3 rIx.toLoadRect (View.loadsAt_vmem h_S1x1x8192)) fun v4 =>
           .op (.load arg3 rIy.toLoadRect (View.loadsAt_vmem h_S1x1x8192)) fun v6 => g v0 v2 v4 v6) K := by
  unfold owns
  iintro ⟨⟨%f0, %hf0, H0⟩, ⟨%f1, %hf1, H1⟩, Hk⟩
  subst hf0 hf1
  sl_exec
  iapply Hk
  isplitl [H0]
  · iexists f0; isplitr; · ipureintro; rfl
    iexact H0
  iexists f1; isplitr; · ipureintro; rfl
  iexact H1

attribute [local irreducible] tailProg

/-- The body on whole buffers, the inputs' at `xW` and the result's at anything, runs to the continuation holding the
    inputs' as they were and the result's at `out`. -/
theorem sound_kernel (d : Defs nD τ sig (Elt F) (Λ₀ F))
    (hd1 : ∀ i v16 lo hi, d .tc 1 ⟨i, v16, lo, hi⟩ = cc0_while1_skel i v16 lo hi)
    (hd2 : ∀ i b v837 v833 v835 lo hi, d .tc 2 ⟨i, b, v837, v833, v835, lo, hi⟩ = cc0_while2_skel i b v837 v833 v835 lo hi)
    (c : Dev nD) (E : Set ℕ) (i : grid0.Coords) (arg2 : Memref sig .tc .vmem S1x128x2 .f32) (harg2 : arg2.IsWhole)
    (arg3 : Memref sig .tc .vmem S1x2x8192 .f32) (harg3 : arg3.IsWhole) (arg4 : Memref sig .tc .vmem S1x8192x128 .f32)
    (harg4 : arg4.IsWhole) (arg5 : Memref sig .tc .vmem S1x1 .f32) (harg5 : arg5.IsWhole)
    (arg6 : Memref sig .tc .vmem S1x128x128 .f32) (harg6 : arg6.IsWhole)
    (x0 : Vec F S1x128x2 .f32) (x1 : Vec F S1x2x8192 .f32) (x2 : Vec F S1x8192x128 .f32) (x3 : Vec F S1x1 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out x0 x1 x2 x3)) -∗ K ⟨⟩))
      ⊢ wp frame (wpE d 𝒱₀ (c : Thread nD τ) none) E
          (cc0__proj_body i arg2 harg2 arg3 harg3 arg4 harg4 arg5 harg5 arg6 harg6) K := by
  rw [body_eq]
  simp only [k0_part1_eq_skeleton]
  unfold k0_part1_skel
  simp only [Prog.lift, Prog.bind_op, Prog.bind_ret, Prog.pure_eq_ret]
  iintro ⟨H0, H1, H2, H3, H4, Hk⟩
  iapply (sound_loads d c E arg2 arg3 x0 x1
    (fun v0 v2 v4 v6 => tailProg i arg2 harg2 arg3 harg3 arg4 harg4 arg5 harg5 arg6 harg6 (k0_pay12 v0 v2 v4 v6)
      (word v0 v2 v4 v6)) K)
  isplitl [H0]; · iexact H0
  isplitl [H1]; · iexact H1
  iintro ⟨H0, H1⟩
  iapply (sound_tail d hd1 hd2 c E i arg2 harg2 arg3 harg3 arg4 harg4 arg5 harg5 arg6 harg6 x2 x3 _ _ _)
  isplitl [H2]; · iexact H2
  isplitl [H3]; · iexact H3
  isplitl [H4]; · iexact H4
  iintro ⟨H2, H3, H4⟩
  iapply Hk
  isplitl [H0]; · iexact H0
  isplitl [H1]; · iexact H1
  isplitl [H2]; · iexact H2
  isplitl [H3]; · iexact H3
  iexact H4

end Cert.KernelIdeal.Own
-- ==== Proof.Run.lean ====
/-
  The launch of the kernel: the arrays as @main's host operations leave them, the proof data of the one pipeline, the
  body at every grid point, and the run, over any float values.
-/
module

public import proofs.«01_k».proof.Proof.Body

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer as the host operations before the launch leave it. -/
def V (c : Dev nD) (b : Ref sig .tc) : Buf (Elt F) ((c : Thread nD τ).loc b) :=
  StableHlo.after hostOps0 (fun b => m (c, b)) b

/-- The block of window `w`'s array at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's buffer after the body at point `t`. -/
def after4 (c : Dev nD) (t : Fin (cfg0 (F := F)).N) : Vec F S1x128x128 .f32 :=
  out (iblk m c 0 t) (iblk m c 1 t) (iblk m c 2 t) (iblk m c 3 t)

/-- The proof data: the arrays at the launch, each input's buffer at its block, the result's at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => after4 m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = after4 m c t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel defs₀ row1 row2 c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem fresh0 : (hostOps0 : List (HloOp τ sig (Elt F))).Forall fun op => op.fresh = ∅ := by
  simp only [List.Forall]; repeat' constructor

/-- @main is the host operations, then the launch. -/
theorem hmain : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub fresh0 main_chain

set_option backward.isDefEq.respectTransparency.types false in
/-- The run: it ends with the windows' arrays as the pipeline leaves them, every other buffer as it was at the launch,
    and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

end Cert.KernelIdeal.Own
-- ==== Proof.Frame.lean ====
/-
  The frame: the run ends with every argument as it was and every semaphore counter at zero.
-/
module

public import proofs.«01_k».proof.Proof.Run

@[expose] public section

noncomputable section

namespace Cert.KernelIdeal.Own

open Idealize.ShloMosaic Idealize.ShloMosaic.TcCoe Idealize.ShloMosaic.Tactic Idealize.SL Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxRecDepth 8192 in
set_option maxHeartbeats 4000000 in
/-- The host operations before the launch write none of the arguments. -/
theorem V_arg (c : Dev nD) :
    V m c main_arg0 = m ((c.tc : Thread nD τ).loc main_arg0)
    ∧ V m c main_arg1 = m ((c.tc : Thread nD τ).loc main_arg1)
    ∧ V m c main_arg2 = m ((c.tc : Thread nD τ).loc main_arg2)
    ∧ V m c main_arg3 = m ((c.tc : Thread nD τ).loc main_arg3)
    ∧ V m c main_arg4 = m ((c.tc : Thread nD τ).loc main_arg4)
    ∧ V m c main_arg5 = m ((c.tc : Thread nD τ).loc main_arg5) := by
  refine ⟨?_, ?_, ?_, ?_, ?_, ?_⟩ <;>
    (unfold V; simp only [hostOps0, TRef.binary, TRef.nullary, TRef.ternary, TRef.unary, TRef.toBuf, TRef.ofBuf, cast_eq]
     after_results_simp <;> rfl)

/-- No window's array is one of the other arguments. -/
theorem no_window (i : Fin 5) (w : Fin 5) :
    (spec0 w).arr.view.ref ≠ (![main_arg1, main_arg2, main_arg3, main_arg4, main_arg5] : Fin 5 → Ref sig .tc) i := by
  revert i w; decide

/-- The arguments of every final state are those of the launch. -/
theorem args_kept (c : Dev nD) (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨h0, h1, h2, h3, h4, h5⟩ := V_arg m c
  refine ⟨?_, ?_, ?_, ?_, ?_, ?_⟩
  · exact ((h c).1 (2 : Fin 5)).trans (((dats m 0 c).arrAt_in 2 rfl _).trans ((A_eq m c 2).trans h0))
  · exact ((h c).2 main_arg1 (Pipeline.mem_restRefs_of main_arg1 (by decide) (no_window 0))).trans h1
  · exact ((h c).2 main_arg2 (Pipeline.mem_restRefs_of main_arg2 (by decide) (no_window 1))).trans h2
  · exact ((h c).2 main_arg3 (Pipeline.mem_restRefs_of main_arg3 (by decide) (no_window 2))).trans h3
  · exact ((h c).2 main_arg4 (Pipeline.mem_restRefs_of main_arg4 (by decide) (no_window 3))).trans h4
  · exact ((h c).2 main_arg5 (Pipeline.mem_restRefs_of main_arg5 (by decide) (no_window 4))).trans h5

/-- The frame, for any float values. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨fun c => args_kept m c r h.1, h.2⟩) (run_main m ρ)

end Cert.KernelIdeal.Own

end
-- ==== Proof.Word.lean ====
/-
  The words a search moves through, as numbers: the words from 0 to 0x7F7FFFFF denote an increasing sequence of reals, and
  a number rounded up to a whole number, at most 2^24, of units of a power of two is one of them.
-/
module

public import Idealize.ShloMosaic.PureOps.Ideal
public import Mathlib.Tactic.Ring
public import Mathlib.Tactic.Positivity
public import Mathlib.Tactic.Linarith

@[expose] public section

noncomputable section

namespace Cert.Word

open Idealize.ShloMosaic

/-- The greatest word of the search. -/
abbrev top : ℕ := 0x7F7FFFFF

/-- A word's number. -/
def val (w : BitVec 32) : EReal := Ideal.ofBits .f32 w

/-- A word's number in units of `2 ^ (-149)`. -/
def units (v : ℕ) : ℕ := if v < 2 ^ 23 then v else (2 ^ 23 + v % 2 ^ 23) * 2 ^ (v / 2 ^ 23 - 1)

theorem val_eq (v : ℕ) (h : v ≤ top) : val (BitVec.ofNat 32 v) = (((units v : ℝ) * (2 : ℝ) ^ (-149 : ℤ) : ℝ) : EReal) := by
  unfold val Ideal.ofBits Ideal.ieee
  have hn : (BitVec.ofNat 32 v).toNat = v := by rw [BitVec.toNat_ofNat]; exact Nat.mod_eq_of_lt (by unfold top at h; omega)
  have hx : ((BitVec.ofNat 32 v).extractLsb' 23 8).toNat = v / 2 ^ 23 := by
    rw [BitVec.extractLsb'_toNat, hn, Nat.shiftRight_eq_div_pow]
    exact Nat.mod_eq_of_lt (by unfold top at h; omega)
  have hf : ((BitVec.ofNat 32 v).extractLsb' 0 23).toNat = v % 2 ^ 23 := by
    rw [BitVec.extractLsb'_toNat, hn, Nat.shiftRight_zero]
  have hs : ((BitVec.ofNat 32 v).extractLsb' 31 1 == 1#1) = false := by
    rw [beq_eq_false_iff_ne]
    intro e
    have := congrArg BitVec.toNat e
    rw [BitVec.extractLsb'_toNat, hn, Nat.shiftRight_eq_div_pow] at this
    unfold top at h
    have : v / 2 ^ 31 = 0 := Nat.div_eq_of_lt (by omega)
    simp_all
    omega
  simp only [Nat.reduceAdd, hx, hf, hs]
  unfold units
  by_cases hlt : v < 2 ^ 23
  · have h0 : v / 2 ^ 23 = 0 := Nat.div_eq_of_lt hlt
    have h1 : v % 2 ^ 23 = v := Nat.mod_eq_of_lt hlt
    rw [if_pos hlt, h0, h1]
    norm_num
  · have hx1 : 1 ≤ v / 2 ^ 23 := (Nat.one_le_div_iff (by norm_num)).mpr (by omega)
    have hx2 : v / 2 ^ 23 ≠ 255 := by unfold top at h; omega
    rw [if_neg hlt, if_neg (by norm_num; omega), if_neg (by omega)]
    congr 1
    obtain ⟨k, hk⟩ : ∃ k, v / 2 ^ 23 = k + 1 := ⟨v / 2 ^ 23 - 1, by omega⟩
    rw [hk]
    push_cast
    norm_num
    rw [show ((k : ℤ) + 1 - 127 - 23) = (k : ℤ) + (-149) by ring, zpow_add₀ (by norm_num), zpow_natCast]
    ring

theorem units_succ (v : ℕ) : units (v + 1) = units v + 2 ^ (v / 2 ^ 23 - 1) := by
  unfold units
  have hd := Nat.div_add_mod v (2 ^ 23)
  have hm := Nat.mod_lt v (show 0 < 2 ^ 23 by norm_num)
  generalize hq : v / 2 ^ 23 = q at *
  generalize hr : v % 2 ^ 23 = r at *
  by_cases hc : r + 1 < 2 ^ 23
  · have h1 : (v + 1) / 2 ^ 23 = q := by omega
    have h2 : (v + 1) % 2 ^ 23 = r + 1 := by omega
    rw [h1, h2]
    rcases Nat.eq_zero_or_pos q with h0 | h0
    · rw [if_pos (by omega), if_pos (by omega), h0]; norm_num
    · rw [if_neg (by omega), if_neg (by omega)]; ring
  · have h1 : (v + 1) / 2 ^ 23 = q + 1 := by omega
    have h2 : (v + 1) % 2 ^ 23 = 0 := by omega
    have h3 : r = 2 ^ 23 - 1 := by omega
    rw [h1, h2]
    rcases Nat.eq_zero_or_pos q with h0 | h0
    · rw [if_neg (by omega), if_pos (by omega), h0]; norm_num; omega
    · rw [if_neg (by omega), if_neg (by omega), h3]
      obtain ⟨k, rfl⟩ : ∃ k, q = k + 1 := ⟨q - 1, by omega⟩
      simp only [Nat.add_sub_cancel]
      rw [pow_succ]
      norm_num
      ring

theorem units_mono : StrictMono units := strictMono_nat_of_lt_succ fun v => by
  rw [units_succ]; exact Nat.lt_add_of_pos_right (by positivity)

theorem val_mono {v w : ℕ} (h : v ≤ w) (hw : w ≤ top) : val (BitVec.ofNat 32 v) ≤ val (BitVec.ofNat 32 w) := by
  rw [val_eq v (h.trans hw), val_eq w hw, EReal.coe_le_coe_iff]
  have : (units v : ℝ) ≤ units w := by exact_mod_cast units_mono.monotone h
  exact mul_le_mul_of_nonneg_right this (by positivity)

theorem val_top : val (BitVec.ofNat 32 top) ≠ ⊤ := by
  rw [val_eq top le_rfl]
  exact EReal.coe_ne_top _

theorem lt_of_val_lt {v w : ℕ} (hv : v ≤ top) (h : val (BitVec.ofNat 32 v) < val (BitVec.ofNat 32 w)) : v < w := by
  by_contra hc
  exact absurd h (not_lt.mpr (val_mono (not_lt.mp hc) hv))

/-- One exponent more doubles a word's number. -/
theorem units_double (v : ℕ) (h : 2 ^ 23 ≤ v) : units (v + 2 ^ 23) = 2 * units v := by
  unfold units
  have h1 : (v + 2 ^ 23) % 2 ^ 23 = v % 2 ^ 23 := by omega
  have h2 : (v + 2 ^ 23) / 2 ^ 23 - 1 = (v / 2 ^ 23 - 1) + 1 := by omega
  rw [if_neg (by omega), if_neg (by omega), h1, h2, pow_succ]
  ring

/-- Every whole number up to `2 ^ 24` of every power of two is a word's number of units. -/
theorem units_reached (j : ℕ) : ∀ k ≤ 2 ^ 24, ∃ v, units v = k * 2 ^ j := by
  induction j with
  | zero =>
    intro k hk
    refine ⟨k, ?_⟩
    unfold units
    split
    · rw [pow_zero, mul_one]
    · rcases Nat.lt_or_ge k (2 ^ 24) with h | h
      · have h1 : k / 2 ^ 23 = 1 := by omega
        have h2 : k % 2 ^ 23 = k - 2 ^ 23 := by omega
        rw [h1, h2]; norm_num; omega
      · have h1 : k = 2 ^ 24 := by omega
        subst h1; norm_num
  | succ j ih =>
    intro k hk
    rcases Nat.lt_or_ge k (2 ^ 23) with h | h
    · obtain ⟨v, hv⟩ := ih (2 * k) (by omega)
      exact ⟨v, by rw [hv, pow_succ]; ring⟩
    · obtain ⟨v, hv⟩ := ih k hk
      have hv' : 2 ^ 23 ≤ v := by
        have h23 : units (2 ^ 23) = 2 ^ 23 := by unfold units; norm_num
        rw [← units_mono.le_iff_le, h23, hv]
        exact h.trans (Nat.le_mul_of_pos_right _ (by positivity))
      exact ⟨v + 2 ^ 23, by rw [units_double v hv', hv, pow_succ]; ring⟩

/-- The word of a power of two. -/
theorem val_power (e : ℕ) (h1 : 1 ≤ e) (h2 : e ≤ 254) :
    val (BitVec.ofNat 32 (e * 2 ^ 23)) = (((2 : ℝ) ^ ((e : ℤ) - 127) : ℝ) : EReal) := by
  rw [val_eq _ (by unfold top; omega)]
  have hu : units (e * 2 ^ 23) = 2 ^ (e + 22) := by
    unfold units
    rw [if_neg (by omega), Nat.mul_mod_left, Nat.mul_div_cancel _ (by norm_num), Nat.add_zero, ← pow_add]
    congr 1; omega
  rw [hu]
  congr 1
  push_cast
  rw [← zpow_natCast, ← zpow_add₀ (by norm_num)]
  congr 1; push_cast; ring

/-- A number rounded up to a whole number of units of a power of two is a word's number. -/
theorem rounded_up (x : ℝ) (h0 : 0 ≤ x) (e : ℕ) (h1 : 1 ≤ e) (h2 : e ≤ 253) (k : ℤ)
    (hk : k = ⌈x * (2 : ℝ) ^ (((254 - e : ℕ) : ℤ) - 127)⌉) (hb : k ≤ 2 ^ 24)
    (ht : (((k : ℝ) * (2 : ℝ) ^ ((e : ℤ) - 127) : ℝ) : EReal) ≤ val (BitVec.ofNat 32 top)) :
    ∃ w ≤ top, val (BitVec.ofNat 32 w) = (((k : ℝ) * (2 : ℝ) ^ ((e : ℤ) - 127) : ℝ) : EReal)
      ∧ (x : EReal) ≤ val (BitVec.ofNat 32 w) := by
  have hpos : (0 : ℝ) < (2 : ℝ) ^ (((254 - e : ℕ) : ℤ) - 127) := by positivity
  have hk0 : 0 ≤ k := by rw [hk]; exact Int.ceil_nonneg (mul_nonneg h0 hpos.le)
  have hle : x * (2 : ℝ) ^ (((254 - e : ℕ) : ℤ) - 127) ≤ k := by rw [hk]; exact Int.le_ceil _
  obtain ⟨n, rfl⟩ := Int.eq_ofNat_of_zero_le hk0
  obtain ⟨w, hw⟩ := units_reached (e + 22) n (by exact_mod_cast hb)
  have hr : (units w : ℝ) * (2 : ℝ) ^ (-149 : ℤ) = (n : ℝ) * (2 : ℝ) ^ ((e : ℤ) - 127) := by
    rw [hw]
    push_cast
    rw [← zpow_natCast, mul_assoc, ← zpow_add₀ (by norm_num)]
    congr 2; push_cast; ring
  have hwt : w ≤ top := by
    rw [val_eq top le_rfl, EReal.coe_le_coe_iff] at ht
    push_cast at ht
    rw [← hr] at ht
    have := le_of_mul_le_mul_right ht (by positivity)
    exact units_mono.le_iff_le.mp (by exact_mod_cast this)
  refine ⟨w, hwt, ?_, ?_⟩
  · rw [val_eq w hwt, hr]; norm_cast
  · rw [val_eq w hwt, hr, EReal.coe_le_coe_iff]
    have hp2 : (0 : ℝ) < (2 : ℝ) ^ ((e : ℤ) - 127) := by positivity
    have := mul_le_mul_of_nonneg_right hle hp2.le
    rw [mul_assoc, ← zpow_add₀ (by norm_num), show ((254 - e : ℕ) : ℤ) - 127 + ((e : ℤ) - 127) = 0 by omega, zpow_zero, mul_one] at this
    exact_mod_cast this

end Cert.Word

end
-- ==== Proof.Count.lean ====
/-
  The masks and counts of one block, read at a row: how many distances of the row are below, or not above, a word's
  number, and what the searches' tests say of them.
-/
module

public import proofs.«01_k».proof.Proof.Body
public import proofs.«01_k».proof.Proof.Word
public import Idealize.ShloMosaic.Lib.Pointwise

@[expose] public section

noncomputable section

namespace Cert.KernelIdeal.Own

open Cert.KernelIdeal Cert.KernelIdeal.Gen Cert.Word
open Idealize.ShloMosaic Idealize.ShloMosaic.TcCoe

/-- A row of a block of distances. -/
def row (v : FVec Ideal S128x8192 .f32) (r : Fin 128) (k : Fin 8192) : EReal := v (ix2 r k)

/-- How many entries of a row are below a number. -/
def nLt (D : Fin 8192 → EReal) (z : EReal) : ℕ := (Finset.univ.filter fun k => D k < z).card

/-- How many entries of a row are at most a number. -/
def nLe (D : Fin 8192 → EReal) (z : EReal) : ℕ := (Finset.univ.filter fun k => D k ≤ z).card

theorem nLt_le (D : Fin 8192 → EReal) (z : EReal) : nLt D z ≤ 8192 :=
  (Finset.card_le_univ _).trans (by simp)

theorem nLe_le (D : Fin 8192 → EReal) (z : EReal) : nLe D z ≤ 8192 :=
  (Finset.card_le_univ _).trans (by simp)

theorem nLe_mono (D : Fin 8192 → EReal) {y z : EReal} (h : y ≤ z) : nLe D y ≤ nLe D z :=
  Finset.card_le_card fun k => by
    simp only [Finset.mem_filter, Finset.mem_univ, true_and]; exact fun hk => hk.trans h

theorem nLe_le_nLt (D : Fin 8192 → EReal) {y z : EReal} (h : y < z) : nLe D y ≤ nLt D z :=
  Finset.card_le_card fun k => by
    simp only [Finset.mem_filter, Finset.mem_univ, true_and]; exact fun hk => hk.trans_lt h

/-- A sum of ones and zeros as words is the count as a word. -/
theorem fold_count {ι : Type} (s : Finset ι) (p : ι → Prop) [DecidablePred p] :
    s.fold IntOp.addi (0#32) (fun x => BitVec.setWidth 32 (BitVec.ofBool (decide (p x))))
      = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (fun hm => ha (Finset.mem_of_mem_filter _ hm)), decide_eq_true h]
      show 1#32 + BitVec.ofNat 32 _ = _
      rw [BitVec.ofNat_add, add_comm]
    · rw [if_neg h, decide_eq_false h]
      show 0#32 + BitVec.ofNat 32 _ = _
      rw [BitVec.zero_add]

theorem toInt_small (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem ofBool_one (b : Bool) : BitVec.ofBool b = 1#1 ↔ b = true := by cases b <;> decide

theorem slt_small (m n : ℕ) (hm : m < 2 ^ 31) (hn : n < 2 ^ 31) :
    IntOp.cmpi .slt (BitVec.ofNat 32 m) (BitVec.ofNat 32 n) = 1#1 ↔ m < n := by
  show BitVec.ofBool (BitVec.slt _ _) = 1#1 ↔ _
  rw [ofBool_one, BitVec.slt, decide_eq_true_iff,
    toInt_small m hm, toInt_small n hn]
  omega

theorem sge_small (m n : ℕ) (hm : m < 2 ^ 31) (hn : n < 2 ^ 31) :
    IntOp.cmpi .sge (BitVec.ofNat 32 m) (BitVec.ofNat 32 n) = 1#1 ↔ n ≤ m := by
  show BitVec.ofBool (BitVec.sle _ _) = 1#1 ↔ _
  rw [ofBool_one, BitVec.sle, decide_eq_true_iff,
    toInt_small m hm, toInt_small n hn]
  omega

/-- The first count: entries below the word's number. -/
theorem pay653_row (v : FVec Ideal S128x8192 .f32) (T : IVec S128x1 32) (r : Fin 128) :
    k0_pay653 v T (ix2 r 0) = BitVec.ofNat 32 (nLt (row v r) (val (T (ix2 r 0)))) := by
  pointwise [k0_pay653, k0_pay652]
  exact fold_count _ _

/-- The second count: entries at most the word's number. -/
theorem pay654_row (v : FVec Ideal S128x8192 .f32) (T : IVec S128x1 32) (r : Fin 128) :
    k0_pay654 v T (ix2 r 0) = BitVec.ofNat 32 (nLe (row v r) (val (T (ix2 r 0)))) := by
  pointwise [k0_pay654, k0_pay652]
  exact fold_count _ _

theorem pay662_row (v : FVec Ideal S128x8192 .f32) (T : IVec S128x1 32) (r : Fin 128) :
    k0_pay662 v T (ix2 r 0) = BitVec.ofNat 32 (nLt (row v r) (val (T (ix2 r 0)))) := by
  pointwise [k0_pay662, k0_pay660]
  exact fold_count _ _

theorem pay663_row (v : FVec Ideal S128x8192 .f32) (T : IVec S128x1 32) (r : Fin 128) :
    k0_pay663 v T (ix2 r 0) = BitVec.ofNat 32 (nLe (row v r) (val (T (ix2 r 0)))) := by
  pointwise [k0_pay663, k0_pay660]
  exact fold_count _ _

/-- The search's test at a row: the middle's number has at least 32 entries not above it. -/
theorem pay4_row (v : FVec Ideal S128x8192 .f32) (s : Bounds) (r : Fin 128) :
    k0_pay4 v s.1 s.2 (ix2 r 0) = 1#1 ↔ 32 ≤ nLe (row v r) (val (middle s (ix2 r 0))) := by
  have h : k0_pay4 v s.1 s.2 (ix2 r 0)
      = IntOp.cmpi .sge (BitVec.ofNat 32 (nLe (row v r) (val (middle s (ix2 r 0))))) (BitVec.ofNat 32 32) := by
    pointwise [k0_pay4, k0_pay3]
    exact congrArg (fun w => IntOp.cmpi .sge w 32#32) (fold_count _ _)
  rw [h]
  exact sge_small _ _ ((nLe_le _ _).trans_lt (by norm_num)) (by norm_num)

/-- A row's word is kept when fewer than 32 entries are below its number and at least 32 are not above it. -/
theorem pay657_row (v : FVec Ideal S128x8192 .f32) (T : IVec S128x1 32) (r : Fin 128) :
    k0_pay657 (k0_pay655 v T) (k0_pay656 v T) (ix2 r 0) = 1#1
      ↔ nLt (row v r) (val (T (ix2 r 0))) < 32 ∧ 32 ≤ nLe (row v r) (val (T (ix2 r 0))) := by
  have h5 : k0_pay655 v T (ix2 r 0)
      = IntOp.cmpi .slt (BitVec.ofNat 32 (nLt (row v r) (val (T (ix2 r 0))))) (BitVec.ofNat 32 32) := by
    pointwise [k0_pay655]; rw [pay653_row]
  have h6 : k0_pay656 v T (ix2 r 0)
      = IntOp.cmpi .sge (BitVec.ofNat 32 (nLe (row v r) (val (T (ix2 r 0))))) (BitVec.ofNat 32 32) := by
    pointwise [k0_pay656]; rw [pay654_row]
  have h7 : k0_pay657 (k0_pay655 v T) (k0_pay656 v T) (ix2 r 0)
      = k0_pay655 v T (ix2 r 0) &&& k0_pay656 v T (ix2 r 0) := by
    pointwise [k0_pay657]; rfl
  rw [← slt_small _ 32 ((nLt_le _ _).trans_lt (by norm_num)) (by norm_num),
    ← sge_small _ 32 ((nLe_le _ _).trans_lt (by norm_num)) (by norm_num), ← h5, ← h6, h7]
  generalize k0_pay655 v T (ix2 r 0) = a
  generalize k0_pay656 v T (ix2 r 0) = b
  revert a b
  decide

/-- The masks stored: below the word's number, and at it. -/
theorem pay664_row (v : FVec Ideal S128x8192 .f32) (T : IVec S128x1 32) (r : Fin 128) (k : Fin 8192) :
    k0_pay664 v T (ix2 r k) = BitVec.ofBool (decide (row v r k < val (T (ix2 r 0)))) := by
  pointwise [k0_pay664, k0_pay660]
  rfl

theorem pay665_row (v : FVec Ideal S128x8192 .f32) (T : IVec S128x1 32) (r : Fin 128) (k : Fin 8192) :
    k0_pay665 v T (ix2 r k) = BitVec.ofBool (decide (row v r k = val (T (ix2 r 0)))) := by
  pointwise [k0_pay665, k0_pay660]
  rfl

/-- The conditional's maximum, over the rows. -/
theorem pay661_eq (a b : IVec S128x1 1) :
    k0_pay661 (F := Ideal) a b = Finset.fold max (Ideal.ofBits FTy.f32 4286578688#32)
      (fun x : Fin 128 × Fin 1 => Scalar.select (IntOp.xori (k0_pay657 a b (ix2 x.1 0)) 1#1) (1 : EReal) 0)
      Finset.univ := by
  pointwise [k0_pay661]

/-- A row whose mask is off makes the conditional's maximum positive. -/
theorem pay661_pos (a b : IVec S128x1 1) (r : Fin 128) (h : ¬ k0_pay657 a b (ix2 r 0) = 1#1) :
    (0 : EReal) < k0_pay661 (F := Ideal) a b := by
  rw [pay661_eq, Finset.lt_fold_max]
  refine Or.inr ⟨(r, 0), Finset.mem_univ _, ?_⟩
  have hx : IntOp.xori (k0_pay657 a b (ix2 r 0)) 1#1 = 1#1 := by
    generalize k0_pay657 a b (ix2 r 0) = c at h
    revert c; decide
  dsimp only
  rw [hx]
  exact zero_lt_one

/-- The conditional's comparison of a positive number with zero. -/
theorem above_zero (z : Ideal .f32) (h : (0 : EReal) < z) :
    Scalar.cmpf .ogt z (Scalar.ofBits .f32 0x00000000#32 : Ideal .f32) = 1#1 := by
  have h0 : (Scalar.ofBits .f32 0x00000000#32 : Ideal .f32) = (0 : EReal) := by
    show Ideal.ofBits .f32 0x00000000#32 = 0
    pointwise
  rw [h0]
  show BitVec.ofBool (decide ((0 : EReal) < z)) = 1#1
  rw [decide_eq_true h]; rfl

/-- When some row's word is not kept, the conditional's test passes. -/
theorem test_of_row (v : FVec Ideal S128x8192 .f32) (T : IVec S128x1 32) (r : Fin 128)
    (h : ¬ k0_pay657 (k0_pay655 v T) (k0_pay656 v T) (ix2 r 0) = 1#1) : test v T := by
  have hs : someOpen v T = 1#1 := above_zero _ (pay661_pos _ _ r h)
  unfold test
  rw [hs]
  rfl

end Cert.KernelIdeal.Own

end
-- ==== Proof.Rank.lean ====
/-
  What the searches find in a row of a block, and the mask stored: the threshold is the least word's number that 32 entries
  are at most, and the entries kept are 32, those below it and the first of those at it.
-/
module

public import proofs.«01_k».proof.Proof.Count

@[expose] public section

noncomputable section

namespace Cert.KernelIdeal.Own

open Cert.KernelIdeal Cert.KernelIdeal.Gen Cert.Word
open Idealize.ShloMosaic Idealize.ShloMosaic.TcCoe

/-- A row whose bounds start equal keeps its upper bound, whatever the test says. -/
theorem fixed_row (step : Bounds → Bounds) (pass : Bounds → S128x1.Idx → BitVec 1) (hstep : ∀ s, step s = halve (pass s) s)
    (k : ℕ) (s : Bounds) (p : S128x1.Idx) (T : BitVec 32) (h1 : s.1 p = T) (h2 : s.2 p = T) :
    upper (go step k s) p = T := by
  refine (go_inv (fun s => s.2 p = T ∧ (s.1 p = T ∨ s.1 p = T + 1#32)) ?_ k s ⟨h2, Or.inl h1⟩).1
  intro s hs
  obtain ⟨e2, e1⟩ := hs
  have hm : middle s p = T := by
    unfold middle
    rcases e1 with e1 | e1
    · rw [e1, e2, BitVec.sub_self, show (0#32 : BitVec 32).sshiftRight 1 = 0#32 by decide, BitVec.add_zero]
    · rw [e1, e2, show T - (T + 1#32) = 4294967295#32 by
        rw [BitVec.sub_eq_iff_eq_add, add_comm T, ← add_assoc, show (4294967295#32 + 1#32 : BitVec 32) = 0#32 by decide,
          BitVec.zero_add], show (4294967295#32 : BitVec 32).sshiftRight 1 = 4294967295#32 by decide, add_assoc,
        show (1#32 + 4294967295#32 : BitVec 32) = 0#32 by decide, BitVec.add_zero]
  rw [hstep]
  unfold halve
  dsimp only
  by_cases hp : pass s p = 1#1
  · rw [if_pos hp, if_pos hp]; exact ⟨hm, e1⟩
  · rw [if_neg hp, if_neg hp]; exact ⟨e2, Or.inr (by rw [hm])⟩

/-- The middle of two small words. -/
theorem middle_small (s : Bounds) (p : S128x1.Idx) (l h : ℕ) (hl : s.1 p = BitVec.ofNat 32 l) (hh : s.2 p = BitVec.ofNat 32 h)
    (hle : l ≤ h) (ht : h < 2 ^ 31) : middle s p = BitVec.ofNat 32 (l + (h - l) / 2) := by
  unfold middle
  rw [hl, hh]
  have e : BitVec.ofNat 32 h - BitVec.ofNat 32 l = BitVec.ofNat 32 (h - l) := by
    rw [BitVec.sub_eq_iff_eq_add, ← BitVec.ofNat_add, Nat.sub_add_cancel hle]
  have e2 : (BitVec.ofNat 32 (h - l)).sshiftRight 1 = BitVec.ofNat 32 ((h - l) / 2) := by
    apply BitVec.eq_of_toInt_eq
    rw [toInt_half, toInt_small _ (by omega), toInt_small _ (by omega)]
    rfl
  rw [e, e2, ← BitVec.ofNat_add]

/-- A row searched from `0` to `N` ends at the least word that passes. -/
theorem least_row (step : Bounds → Bounds) (pass : Bounds → S128x1.Idx → BitVec 1) (hstep : ∀ s, step s = halve (pass s) s)
    (hbnd : ∀ s k, Bnd (k + 1) s → Bnd k (step s)) (N K : ℕ) (hN : N < 2 ^ 31) (s : Bounds) (hs : Bnd K s)
    (p : S128x1.Idx) (P : ℕ → Prop)
    (hP : ∀ s n, n ≤ N → middle s p = BitVec.ofNat 32 n → (pass s p = 1#1 ↔ P n)) (hmono : ∀ m n, m ≤ n → n ≤ N → P m → P n)
    (hlast : P N) (h1 : s.1 p = 0#32) (h2 : s.2 p = BitVec.ofNat 32 N) :
    ∃ n ≤ N, upper (go step K s) p = BitVec.ofNat 32 n ∧ P n ∧ ∀ m < n, ¬ P m := by
  have inv := go_inv (step := step) (fun s => ∃ l h : ℕ, s.1 p = BitVec.ofNat 32 l ∧ s.2 p = BitVec.ofNat 32 h ∧ l ≤ h ∧ h ≤ N
      ∧ P h ∧ ∀ m < l, ¬ P m) (by
    rintro s ⟨l, h, e1, e2, hle, ht, hPh, hl⟩
    have hm := middle_small s p l h e1 e2 hle (by omega)
    rw [hstep]
    unfold halve
    dsimp only
    by_cases hp : pass s p = 1#1
    · rw [if_pos hp, if_pos hp]
      exact ⟨l, l + (h - l) / 2, e1, hm, by omega, by omega, (hP s _ (by omega) hm).mp hp, hl⟩
    · rw [if_neg hp, if_neg hp]
      have hn : ¬ P (l + (h - l) / 2) := fun hq => hp ((hP s _ (by omega) hm).mpr hq)
      have hlt : l + (h - l) / 2 < h := by
        rcases Nat.lt_or_ge (l + (h - l) / 2) h with h' | h'
        · exact h'
        · exact absurd (by rwa [show l + (h - l) / 2 = h by omega]) hn
      refine ⟨l + (h - l) / 2 + 1, h, by rw [hm]; exact (BitVec.ofNat_add _ 1).symm, e2, hlt, ht, hPh, fun m hml hPm => ?_⟩
      exact hn (hmono m _ (by omega) (by omega) hPm)) K s
    ⟨0, N, h1, h2, Nat.zero_le _, le_refl _, hlast, fun m hm => absurd hm (Nat.not_lt_zero m)⟩
  have closed := go_closed hbnd K s hs p
  obtain ⟨l, h, e1, e2, hle, ht, hPh, hl⟩ := inv
  unfold width at closed
  have e : BitVec.ofNat 32 h - BitVec.ofNat 32 l = BitVec.ofNat 32 (h - l) := by
    rw [BitVec.sub_eq_iff_eq_add, ← BitVec.ofNat_add, Nat.sub_add_cancel hle]
  rw [e1, e2, e, toInt_small _ (by omega)] at closed
  have hlh : l = h := by omega
  subst hlh
  exact ⟨l, ht, e2, hPh, hl⟩

/-- The row's threshold: its number is at least the 32nd smallest, and at most any word's that is. -/
theorem thr_row (v : FVec Ideal S128x8192 .f32) (T : IVec S128x1 32) (r : Fin 128) (z : EReal)
    (hz1 : nLt (row v r) z < 32) (hz2 : 32 ≤ nLe (row v r) z) (w : ℕ) (hw : w ≤ top) (hzw : z ≤ val (BitVec.ofNat 32 w)) :
    (z ≤ val (thr v T (ix2 r 0)) ∧ val (thr v T (ix2 r 0)) ≤ val (BitVec.ofNat 32 w))
      ∧ (¬ test v T → thr v T (ix2 r 0) = T (ix2 r 0)) := by
  by_cases hv : k0_pay657 (k0_pay655 v T) (k0_pay656 v T) (ix2 r 0) = 1#1
  · have ht : thr v T (ix2 r 0) = T (ix2 r 0) := by
      refine fixed_row (step1 v) (fun s => k0_pay4 v s.1 s.2) (step1_eq v) 31 _ (ix2 r 0) _ ?_ ?_
      · pointwise [k0_pay658]; rw [hv]; rfl
      · pointwise [k0_pay659]; rw [hv]; rfl
    obtain ⟨a, b⟩ := (pay657_row v T r).mp hv
    have e : val (T (ix2 r 0)) = z := by
      rcases lt_trichotomy (val (T (ix2 r 0))) z with h | h | h
      · have := nLe_le_nLt (row v r) h; omega
      · exact h
      · have := nLe_le_nLt (row v r) h; omega
    rw [ht]
    exact ⟨⟨e.ge, e.le.trans hzw⟩, fun _ => rfl⟩
  · refine ⟨?_, fun hn => absurd (test_of_row v T r hv) hn⟩
    obtain ⟨n, hn, e, hPn, hlow⟩ := least_row (step1 v) (fun s => k0_pay4 v s.1 s.2) (step1_eq v) (bnd_step1 v) top 31
      (by norm_num) _ (bnd_start1 T (k0_pay655 v T) (k0_pay656 v T)) (ix2 r 0)
      (fun n => 32 ≤ nLe (row v r) (val (BitVec.ofNat 32 n)))
      (fun s n _ hm => by rw [pay4_row, hm]) (fun m n hmn hn hm => hm.trans (nLe_mono _ (val_mono hmn hn)))
      (hz2.trans (nLe_mono _ (hzw.trans (val_mono hw le_rfl)))) (by
        have h0 := BitVec.eq_zero_or_eq_one (k0_pay657 (k0_pay655 v T) (k0_pay656 v T) (ix2 r 0))
        pointwise [k0_pay658]; rw [h0.resolve_right hv]; rfl) (by
        have h0 := BitVec.eq_zero_or_eq_one (k0_pay657 (k0_pay655 v T) (k0_pay656 v T) (ix2 r 0))
        pointwise [k0_pay659]; rw [h0.resolve_right hv]; rfl)
    have e' : thr v T (ix2 r 0) = BitVec.ofNat 32 n := e
    rw [e']
    refine ⟨?_, ?_⟩
    · by_contra hc
      rw [not_le] at hc
      have := nLe_le_nLt (row v r) hc; omega
    · refine val_mono ?_ hw
      by_contra hc
      exact hlow w (not_le.mp hc) (hz2.trans (nLe_mono _ hzw))

/-- The counts of the threshold, in either branch of the conditional. -/
theorem counts_row (v : FVec Ideal S128x8192 .f32) (T : IVec S128x1 32) (r : Fin 128)
    (h : ¬ test v T → thr v T (ix2 r 0) = T (ix2 r 0)) :
    (counts v T).1 (ix2 r 0) = BitVec.ofNat 32 (nLt (row v r) (val (thr v T (ix2 r 0))))
      ∧ (counts v T).2 (ix2 r 0) = BitVec.ofNat 32 (nLe (row v r) (val (thr v T (ix2 r 0)))) := by
  classical
  by_cases ht : test v T
  · have e : counts v T = (k0_pay662 v (thr v T), k0_pay663 v (thr v T)) := if_pos ht
    rw [e]
    dsimp only
    rw [pay662_row, pay663_row]
    exact ⟨rfl, rfl⟩
  · have e : counts v T = (k0_pay653 v T, k0_pay654 v T) := if_neg ht
    rw [e, h ht]
    dsimp only
    rw [pay653_row, pay654_row]
    exact ⟨rfl, rfl⟩

theorem select_zero {α : Type} (x y : α) : Scalar.select 0#1 x y = y := rfl

theorem select_one {α : Type} (x y : α) : Scalar.select 1#1 x y = x := rfl

/-- With exactly 32 entries not above the threshold, every position at it is kept. -/
theorem lastPos_row (v : FVec Ideal S128x8192 .f32) (t : IVec S128x1 32) (n : Bounds) (r : Fin 128)
    (h : n.2 (ix2 r 0) = 32#32) : lastPos v t n (ix2 r 0) = 8191#32 := by
  have h6 : k0_pay666 n.1 (ix2 r 0) = 32#32 - n.1 (ix2 r 0) := by pointwise [k0_pay666]; rfl
  have h7 : k0_pay667 n.1 n.2 (ix2 r 0) = 32#32 - n.1 (ix2 r 0) := by pointwise [k0_pay667]; rw [h]; rfl
  have h9 : k0_pay669 n.1 n.2 (ix2 r 0) = 0#1 := by
    pointwise [k0_pay669]
    rw [h6, h7]
    generalize 32#32 - n.1 (ix2 r 0) = a
    show _ &&& BitVec.ofBool (BitVec.slt a a) = 0#1
    rw [show BitVec.slt a a = false by rw [BitVec.slt, decide_eq_false]; exact lt_irrefl _]
    exact BitVec.and_zero
  have h8 : k0_pay668 v t n.1 n.2 (ix2 r 0) = 8191#32 := by
    pointwise [k0_pay668]
    rw [h6, h7]
    generalize 32#32 - n.1 (ix2 r 0) = a
    rw [show IntOp.cmpi .eq a a = 1#1 by show BitVec.ofBool (a == a) = 1#1; rw [beq_self_eq_true]; rfl]
    rfl
  refine fixed_row (step2 pos (k0_pay665 v t) (k0_pay666 n.1))
    (fun s => k0_pay9 pos (k0_pay665 v t) (k0_pay666 n.1) s.1 s.2) (step2_eq _ _ _) 13 _ (ix2 r 0) _ ?_ ?_
  · pointwise [k0_pay670]; rw [h9, select_zero]; exact h8
  · pointwise [k0_pay671]; rw [h9, select_zero]; exact h8

/-- How many entries at a number are at positions up to `n`. -/
def tied (D : Fin 8192 → EReal) (z : EReal) (n : ℕ) : ℕ := (Finset.univ.filter fun k : Fin 8192 => D k = z ∧ k.val ≤ n).card

/-- The entries below a number, and those at it up to a position. -/
def upTo (D : Fin 8192 → EReal) (z : EReal) (n : ℕ) : Finset (Fin 8192) :=
  Finset.univ.filter fun k : Fin 8192 => D k < z ∨ D k = z ∧ k.val ≤ n

theorem card_upTo (D : Fin 8192 → EReal) (z : EReal) (n : ℕ) : (upTo D z n).card = nLt D z + tied D z n := by
  unfold upTo nLt tied
  rw [Finset.filter_or, Finset.card_union_of_disjoint]
  rw [Finset.disjoint_filter]
  exact fun k _ h h' => absurd h'.1 h.ne

theorem nLe_split (D : Fin 8192 → EReal) (z : EReal) (n : ℕ) (h : ∀ k : Fin 8192, k.val ≤ n) : nLe D z = nLt D z + tied D z n := by
  rw [← card_upTo]
  unfold nLe upTo
  refine congrArg Finset.card (Finset.filter_congr fun k _ => ?_)
  rw [le_iff_lt_or_eq]
  exact or_congr_right ⟨fun e => ⟨e, h k⟩, fun e => e.1⟩

theorem nLe_eq (D : Fin 8192 → EReal) (z : EReal) : nLe D z = nLt D z + tied D z 8191 :=
  nLe_split D z 8191 fun k => Nat.le_of_lt_succ k.isLt

theorem tied_le (D : Fin 8192 → EReal) (z : EReal) (n : ℕ) : tied D z n ≤ 8192 := (Finset.card_le_univ _).trans (by simp)

theorem tied_mono (D : Fin 8192 → EReal) (z : EReal) {m n : ℕ} (h : m ≤ n) : tied D z m ≤ tied D z n :=
  Finset.card_le_card fun k => by
    simp only [Finset.mem_filter, Finset.mem_univ, true_and]; exact fun hk => ⟨hk.1, hk.2.trans h⟩

theorem tied_zero (D : Fin 8192 → EReal) (z : EReal) : tied D z 0 ≤ 1 := by
  refine Finset.card_le_one.mpr fun a ha b hb => ?_
  have ha := (Finset.mem_filter.mp ha).2.2
  have hb := (Finset.mem_filter.mp hb).2.2
  exact Fin.ext (by omega)

theorem tied_succ (D : Fin 8192 → EReal) (z : EReal) (n : ℕ) : tied D z (n + 1) ≤ tied D z n + 1 := by
  have hs : (Finset.univ.filter fun k : Fin 8192 => D k = z ∧ k.val ≤ n + 1)
      ⊆ (Finset.univ.filter fun k : Fin 8192 => D k = z ∧ k.val ≤ n) ∪ (Finset.univ.filter fun k : Fin 8192 => k.val = n + 1) :=
    fun k hk => by
      have hk := (Finset.mem_filter.mp hk).2
      simp only [Finset.mem_union, Finset.mem_filter, Finset.mem_univ, true_and]
      rcases Nat.lt_or_ge n k.val with h | h
      · right; omega
      · left; exact ⟨hk.1, h⟩
  have h1 : (Finset.univ.filter fun k : Fin 8192 => k.val = n + 1).card ≤ 1 :=
    Finset.card_le_one.mpr fun a ha b hb => by
      have ha := (Finset.mem_filter.mp ha).2
      have hb := (Finset.mem_filter.mp hb).2
      exact Fin.ext (by omega)
  exact (Finset.card_le_card hs).trans ((Finset.card_union_le _ _).trans (Nat.add_le_add_left h1 _))

/-- At the least position with `r` entries up to it, there are exactly `r`. -/
theorem tied_least (D : Fin 8192 → EReal) (z : EReal) (r n : ℕ) (hr : 1 ≤ r) (h : r ≤ tied D z n) (hl : ∀ m < n, ¬ r ≤ tied D z m) :
    tied D z n = r := by
  rcases n with _ | n
  · have := tied_zero D z; omega
  · have := tied_succ D z n
    have := hl n (Nat.lt_succ_self n)
    omega

theorem sub_small (m n : ℕ) (h : m ≤ n) : BitVec.ofNat 32 n - BitVec.ofNat 32 m = BitVec.ofNat 32 (n - m) := by
  rw [BitVec.sub_eq_iff_eq_add, ← BitVec.ofNat_add, Nat.sub_add_cancel h]

theorem sle_small (m n : ℕ) (hm : m < 2 ^ 31) (hn : n < 2 ^ 31) :
    IntOp.cmpi .sle (BitVec.ofNat 32 m) (BitVec.ofNat 32 n) = BitVec.ofBool (decide (m ≤ n)) := by
  show BitVec.ofBool (BitVec.sle _ _) = _
  rw [BitVec.sle, toInt_small m hm, toInt_small n hn]
  congr 1
  exact decide_eq_decide.mpr (by omega)

/-- The least of some positions, the others standing at 8192. -/
theorem fold_least (p : Fin 8192 → Prop) [DecidablePred p] (s : Finset (Fin 8192)) :
    ∃ M : ℕ, s.fold IntOp.minsi (2147483647#32) (fun x => Scalar.select (BitVec.ofBool (decide (p x))) (BitVec.ofNat 32 x.val) 8192#32)
        = BitVec.ofNat 32 M ∧ M < 2 ^ 31 ∧ (∀ k ∈ s, p k → M ≤ k.val) ∧ (8192 ≤ M ∨ ∃ k ∈ s, p k ∧ M = k.val) := by
  classical
  induction s using Finset.induction_on with
  | empty => exact ⟨2147483647, rfl, by norm_num, fun k hk => absurd hk (Finset.notMem_empty k), Or.inl (by norm_num)⟩
  | insert a s ha ih =>
    obtain ⟨M, e, hM, h1, h2⟩ := ih
    rw [Finset.fold_insert ha, e]
    have ha' := a.isLt
    obtain ⟨x, hx, ex⟩ : ∃ x : ℕ, x = (if p a then a.val else 8192)
        ∧ Scalar.select (BitVec.ofBool (decide (p a))) (BitVec.ofNat 32 a.val) 8192#32 = BitVec.ofNat 32 x := by
      refine ⟨_, rfl, ?_⟩
      by_cases hp : p a
      · rw [if_pos hp, decide_eq_true hp]; rfl
      · rw [if_neg hp, decide_eq_false hp]; rfl
    have hx' : x < 2 ^ 31 := by rw [hx]; split <;> omega
    refine ⟨min x M, ?_, (min_le_right _ _).trans_lt hM, fun k hk hp => ?_, ?_⟩
    · rw [ex]
      unfold IntOp.minsi
      rw [BitVec.slt, toInt_small x hx', toInt_small M hM]
      by_cases h : x < M
      · rw [if_pos (by simpa using h), min_eq_left h.le]
      · rw [if_neg (by simpa using h), min_eq_right (not_lt.mp h)]
    · rcases Finset.mem_insert.mp hk with rfl | hk
      · rw [if_pos hp] at hx; omega
      · exact (min_le_right _ _).trans (h1 k hk hp)
    · rcases le_total x M with h | h
      · rw [min_eq_left h]
        by_cases hp : p a
        · exact Or.inr ⟨a, Finset.mem_insert_self _ _, hp, by rw [hx, if_pos hp]⟩
        · left; rw [hx, if_neg hp]
      · rw [min_eq_right h]
        exact h2.imp_right fun ⟨k, hk, hp, hk'⟩ => ⟨k, Finset.mem_insert_of_mem hk, hp, hk'⟩

/-- The position search's test at a row. -/
theorem pay9_row (v : FVec Ideal S128x8192 .f32) (t : IVec S128x1 32) (R : IVec S128x1 32) (s : Bounds) (r : Fin 128) (m n : ℕ)
    (hm : m < 2 ^ 31) (hn : n < 2 ^ 31) (hR : R (ix2 r 0) = BitVec.ofNat 32 m) (hs : middle s (ix2 r 0) = BitVec.ofNat 32 n) :
    k0_pay9 pos (k0_pay665 v t) R s.1 s.2 (ix2 r 0) = 1#1 ↔ m ≤ tied (row v r) (val (t (ix2 r 0))) n := by
  have hk : ∀ k : Fin 8192, IntOp.andi (k0_pay665 v t (ix2 r k)) (IntOp.cmpi .sle (pos (ix2 0 k)) (k0_pay8 s.1 s.2 (ix2 r 0)))
      = BitVec.ofBool (decide (row v r k = val (t (ix2 r 0)) ∧ k.val ≤ n)) := fun k => by
    have hk' := k.isLt
    have hp : pos (ix2 0 k) = BitVec.ofNat 32 k.val := by pointwise [pos]
    rw [pay665_row, hp, pay8_eq, hs, sle_small _ _ (by omega) hn]
    by_cases h1 : row v r k = val (t (ix2 r 0)) <;> by_cases h2 : k.val ≤ n <;> simp [h1, h2] <;> rfl
  have h : k0_pay9 pos (k0_pay665 v t) R s.1 s.2 (ix2 r 0)
      = IntOp.cmpi .sge (BitVec.ofNat 32 (tied (row v r) (val (t (ix2 r 0))) n)) (BitVec.ofNat 32 m) := by
    pointwise [k0_pay9]
    simp only [hk]
    rw [hR]
    refine congrArg (fun w => IntOp.cmpi .sge w (BitVec.ofNat 32 m)) ?_
    unfold tied
    exact fold_count Finset.univ fun k : Fin 8192 => row v r k = val (t (ix2 r 0)) ∧ k.val ≤ n
  rw [h]
  exact sge_small _ _ ((tied_le _ _ _).trans_lt (by norm_num)) hm

/-- With fewer than 32 entries below the threshold and more than 32 not above it, the last position kept leaves 32. -/
theorem lastPos_tie (v : FVec Ideal S128x8192 .f32) (t : IVec S128x1 32) (n : Bounds) (r : Fin 128)
    (h1 : n.1 (ix2 r 0) = BitVec.ofNat 32 (nLt (row v r) (val (t (ix2 r 0)))))
    (h2 : n.2 (ix2 r 0) = BitVec.ofNat 32 (nLe (row v r) (val (t (ix2 r 0)))))
    (hl : nLt (row v r) (val (t (ix2 r 0))) < 32) (hg : 32 < nLe (row v r) (val (t (ix2 r 0)))) :
    ∃ P ≤ 8191, lastPos v t n (ix2 r 0) = BitVec.ofNat 32 P
      ∧ nLt (row v r) (val (t (ix2 r 0))) + tied (row v r) (val (t (ix2 r 0))) P = 32 := by
  have hle := nLe_le (row v r) (val (t (ix2 r 0)))
  have hsum := nLe_eq (row v r) (val (t (ix2 r 0)))
  obtain ⟨a, ha⟩ : ∃ a, nLt (row v r) (val (t (ix2 r 0))) = a := ⟨_, rfl⟩
  obtain ⟨b, hb⟩ : ∃ b, nLe (row v r) (val (t (ix2 r 0))) = b := ⟨_, rfl⟩
  rw [ha] at h1 hl hsum
  rw [hb] at h2 hg hle hsum
  rw [ha]
  have h6 : k0_pay666 n.1 (ix2 r 0) = BitVec.ofNat 32 (32 - a) := by
    rw [← sub_small a 32 (by omega), ← h1]; pointwise [k0_pay666]; rfl
  have h7 : k0_pay667 n.1 n.2 (ix2 r 0) = BitVec.ofNat 32 (b - a) := by
    rw [← sub_small a b (by omega), ← h1, ← h2]; pointwise [k0_pay667]; rfl
  have hlt : IntOp.cmpi .slt (BitVec.ofNat 32 (32 - a)) (BitVec.ofNat 32 (b - a)) = 1#1 :=
    (slt_small _ _ (by omega) (by omega)).mpr (by omega)
  by_cases hr : a = 31
  · have h9 : k0_pay669 n.1 n.2 (ix2 r 0) = 0#1 := by
      pointwise [k0_pay669]
      rw [h6, h7, hlt, hr]
      decide
    have hmask : ∀ k : Fin 8192, k0_pay665 v t (ix2 r k) = BitVec.ofBool (decide (row v r k = val (t (ix2 r 0)))) := pay665_row v t r
    obtain ⟨M, e, hM, hmin, hmem⟩ := fold_least (fun k => row v r k = val (t (ix2 r 0))) Finset.univ
    have h8 : k0_pay668 v t n.1 n.2 (ix2 r 0) = BitVec.ofNat 32 M := by
      pointwise [k0_pay668]
      simp only [hmask]
      rw [h6, h7, e]
      have hne : IntOp.cmpi .eq (BitVec.ofNat 32 (32 - a)) (BitVec.ofNat 32 (b - a)) = 0#1 := by
        have : (BitVec.ofNat 32 (32 - a) == BitVec.ofNat 32 (b - a)) = false := by
          rw [beq_eq_false_iff_ne]
          intro he
          have := congrArg BitVec.toNat he
          rw [BitVec.toNat_ofNat, BitVec.toNat_ofNat, Nat.mod_eq_of_lt (by omega), Nat.mod_eq_of_lt (by omega)] at this
          omega
        show BitVec.ofBool (_ == _) = 0#1
        rw [this]; rfl
      rw [hne, select_zero]
    have hpos : 0 < tied (row v r) (val (t (ix2 r 0))) 8191 := by omega
    obtain ⟨k0, hk0⟩ := Finset.card_pos.mp hpos
    have hk0' := hmin k0 (Finset.mem_univ _) (Finset.mem_filter.mp hk0).2.1
    have hk0l := k0.isLt
    obtain ⟨k, -, hkp, hkM⟩ := hmem.resolve_left (by omega)
    refine ⟨M, by omega, ?_, ?_⟩
    · refine fixed_row (step2 pos (k0_pay665 v t) (k0_pay666 n.1))
        (fun s => k0_pay9 pos (k0_pay665 v t) (k0_pay666 n.1) s.1 s.2) (step2_eq _ _ _) 13 _ (ix2 r 0) _ ?_ ?_
      · pointwise [k0_pay670]; rw [h9, select_zero]; exact h8
      · pointwise [k0_pay671]; rw [h9, select_zero]; exact h8
    · rw [tied_least _ _ 1 M le_rfl]
      · omega
      · exact Finset.card_pos.mpr ⟨k, Finset.mem_filter.mpr ⟨Finset.mem_univ _, hkp, by omega⟩⟩
      · intro m hm hc
        obtain ⟨k', hk'⟩ := Finset.card_pos.mp hc
        have hk' := (Finset.mem_filter.mp hk').2
        have := hmin k' (Finset.mem_univ _) hk'.1
        omega
  · have hgt : IntOp.cmpi .sgt (BitVec.ofNat 32 (32 - a)) 1#32 = 1#1 := by
      unfold IntOp.cmpi
      exact (slt_small 1 (32 - a) (by norm_num) (by omega)).mpr (by omega)
    have h9 : k0_pay669 n.1 n.2 (ix2 r 0) = 1#1 := by
      pointwise [k0_pay669]
      rw [h6, h7, hlt, hgt]
      decide
    obtain ⟨P, hP, e, hPn, hlow⟩ := least_row (step2 pos (k0_pay665 v t) (k0_pay666 n.1))
      (fun s => k0_pay9 pos (k0_pay665 v t) (k0_pay666 n.1) s.1 s.2) (step2_eq _ _ _) (bnd_step2 _ _ _) 8191 13 (by norm_num) _
      (bnd_start2 v t n.1 n.2) (ix2 r 0) (fun m => 32 - a ≤ tied (row v r) (val (t (ix2 r 0))) m)
      (fun s m hm hs => pay9_row v t _ s r _ m (by omega) (by omega) h6 hs)
      (fun m m' h _ hm => hm.trans (tied_mono _ _ h)) (by show _ ≤ _; omega)
      (by pointwise [k0_pay670]; rw [h9, select_one]) (by pointwise [k0_pay671]; rw [h9, select_one])
    refine ⟨P, hP, e, ?_⟩
    rw [tied_least _ _ (32 - a) P (by omega) hPn hlow]
    omega

/-- The mask of the entries kept. -/
def keep (v : FVec Ideal S128x8192 .f32) (T : IVec S128x1 32) (r : Fin 128) (k : Fin 8192) : BitVec 1 :=
  IntOp.ori (k0_pay664 v (thr v T) (ix2 r k)) (IntOp.andi (k0_pay665 v (thr v T) (ix2 r k))
    (IntOp.cmpi .sle (BitVec.ofNat 32 k) (lastPos v (thr v T) (counts v T) (ix2 r 0))))

/-- A number is exact enough for a row: some word's number is not below it, and 32 entries are at most that one or it is that one. -/
def Reached (D : Fin 8192 → EReal) (z : EReal) : Prop :=
  ∃ w ≤ top, z ≤ val (BitVec.ofNat 32 w) ∧ (nLe D (val (BitVec.ofNat 32 w)) = 32 ∨ val (BitVec.ofNat 32 w) = z)

/-- The entries kept are 32: those below some number, and those at it up to some position. -/
theorem keep_row (v : FVec Ideal S128x8192 .f32) (T : IVec S128x1 32) (r : Fin 128) (z : EReal)
    (hz1 : nLt (row v r) z < 32) (hz2 : 32 ≤ nLe (row v r) z) (hw : Reached (row v r) z) :
    ∃ t P, (upTo (row v r) t P).card = 32 ∧ ∀ k, keep v T r k = BitVec.ofBool (decide (k ∈ upTo (row v r) t P)) := by
  obtain ⟨w, hw, hzw, hor⟩ := hw
  obtain ⟨⟨ha, hb⟩, hn⟩ := thr_row v T r z hz1 hz2 w hw hzw
  obtain ⟨hc1, hc2⟩ := counts_row v T r hn
  have hP : ∃ P ≤ 8191, lastPos v (thr v T) (counts v T) (ix2 r 0) = BitVec.ofNat 32 P
      ∧ (upTo (row v r) (val (thr v T (ix2 r 0))) P).card = 32 := by
    have h32 : 32 ≤ nLe (row v r) (val (thr v T (ix2 r 0))) := hz2.trans (nLe_mono _ ha)
    rcases eq_or_lt_of_le h32 with h | h
    · rw [← h] at hc2
      exact ⟨8191, le_rfl, lastPos_row v _ _ r hc2, by rw [card_upTo, ← nLe_eq, ← h]⟩
    · have e : val (BitVec.ofNat 32 w) = z := hor.resolve_left fun h' => by
        have := nLe_mono (row v r) hb; omega
      have ht : val (thr v T (ix2 r 0)) = z := le_antisymm (hb.trans e.le) ha
      obtain ⟨P, hP, e1, e2⟩ := lastPos_tie v _ _ r hc1 hc2 (by rw [ht]; exact hz1) h
      exact ⟨P, hP, e1, by rw [card_upTo]; exact e2⟩
  obtain ⟨P, hP, eP, hcard⟩ := hP
  refine ⟨_, P, hcard, fun k => ?_⟩
  have hk := k.isLt
  unfold keep
  rw [pay664_row, pay665_row, eP, sle_small _ _ (by omega) (by omega)]
  unfold upTo
  simp only [Finset.mem_filter, Finset.mem_univ, true_and]
  by_cases h1 : row v r k < val (thr v T (ix2 r 0)) <;> by_cases h2 : row v r k = val (thr v T (ix2 r 0))
    <;> by_cases h3 : k.val ≤ P <;> simp [h1, h2, h3] <;> rfl

end Cert.KernelIdeal.Own

end
-- ==== Proof.Ref.lean ====
/-
  The reference's result, cut into named parts: the coordinates taken, the squared distances, the 32 positions picked, the
  weighted average over them.
-/
module

public import proofs.«01_k».proof.Proof.Gen.ReferenceIdeal.Run
public import Idealize.ShloMosaic.Lib.Pointwise

@[expose] public section

noncomputable section

namespace Cert.ReferenceIdeal.Own

open Cert.ReferenceIdeal Facts₀ Facts
open Idealize.ShloMosaic Idealize.ShloMosaic.TcCoe

variable {F : FTy → Type} [FloatOps F]

/-- An index counted from the end when negative. -/
def wrapped (ix : IVec S2x8192 32) : IVec S2x8192x1 32 :=
  broadcastInDim S2x8192x1 ![0, 1] bcast_S2x8192_S2x8192x1_0_1
    (select (cmpi .slt ix (broadcastInDim S2x8192 ![] bcast_S_S2x8192 (constantI S_ 32 0#32)))
      (addi ix (broadcastInDim S2x8192 ![] bcast_S_S2x8192 (constantI S_ 32 65536#32))) ix)

/-- The coordinates at the given indices. -/
def taken (tbl : FVec F S65536x2 .f32) (ix : IVec S2x8192 32) : FVec F S2x8192x2 .f32 :=
  select (broadcastInDim S2x8192x2 ![0, 1] bcast_S2x8192_S2x8192x2_0_1
      (Host.reduce IntOp.andi (andi (cmpi .sge (wrapped ix) (broadcastInDim S2x8192x1 ![] bcast_S_S2x8192x1 (constantI S_ 32 0#32)))
        (cmpi .sle (wrapped ix) (broadcastInDim S2x8192x1 ![0, 1, 2] bcast_S1x1x1_S2x8192x1_0_1_2
          (broadcastInDim S1x1x1 ![2] bcast_S1_S1x1x1_2 (constantI S1 32 65535#32)))))
        (constantI S_ 1 1#1) reducesTo_S2x8192x1_S2x8192_d2 h_S_))
    (Host.gather gather_S65536x2_S2x8192x1_S2x8192x2_2_0_n_n_0_2_12 tbl (wrapped ix))
    (broadcastInDim S2x8192x2 ![] bcast_S_S2x8192x2 (constant S_ .f32 0x7FC00000#32))

/-- The differences of coordinates. -/
def apart (o p : FVec F S2x8192x2 .f32) : FVec F S2x8192x8192x2 .f32 :=
  subf (broadcastInDim S2x8192x8192x2 ![0, 1, 2, 3] bcast_S2x8192x1x2_S2x8192x8192x2_0_1_2_3
      (broadcastInDim S2x8192x1x2 ![0, 1, 3] bcast_S2x8192x2_S2x8192x1x2_0_1_3 o))
    (broadcastInDim S2x8192x8192x2 ![0, 1, 2, 3] bcast_S2x1x8192x2_S2x8192x8192x2_0_1_2_3
      (broadcastInDim S2x1x8192x2 ![0, 2, 3] bcast_S2x8192x2_S2x1x8192x2_0_2_3 p))

/-- The squared distances. -/
def squared (o p : FVec F S2x8192x2 .f32) : FVec F S2x8192x8192 .f32 :=
  Host.reduceAdd (mulf (apart o p) (apart o p)) (constant S_ .f32 0x00000000#32) reducesTo_S2x8192x8192x2_S2x8192x8192_d3 h_S_

/-- The 32 greatest of the negated distances, and where they are. -/
def picked (d : FVec F S2x8192x8192 .f32) : FVec F S2x8192x32 .f32 × IVec S2x8192x32 32 :=
  Host.topK S2x8192x32 2 (FloatOps.cmpfTotal .gt) (Host.negf d) sliceFits_S2x8192x8192_S2x8192x32

/-- The weights of the positions picked, from the values picked and the widths. -/
def weights (v : FVec F S2x8192x32 .f32) (sigma : FVec F S128 .f32) : FVec F S2x8192x32x128 .f32 :=
  Host.exp (Host.divf (broadcastInDim S2x8192x32x128 ![0, 1, 2, 3] bcast_S2x8192x32x1_S2x8192x32x128_0_1_2_3
      (Host.negf (broadcastInDim S2x8192x32x1 ![0, 1, 2] bcast_S2x8192x32_S2x8192x32x1_0_1_2 (Host.negf v))))
    (broadcastInDim S2x8192x32x128 ![0, 1, 2, 3] bcast_S1x1x1x128_S2x8192x32x128_0_1_2_3
      (broadcastInDim S1x1x1x128 ![3] bcast_S128_S1x1x1x128_3
        (mulf (broadcastInDim S128 ![] bcast_S_S128 (constant S_ .f32 0x40000000#32)) (mulf sigma sigma)))))

/-- The batch's number at every position picked. -/
def batch : IVec S2x8192x32x1 32 :=
  broadcastInDim S2x8192x32x1 ![0, 1, 2] bcast_S2x8192x32_S2x8192x32x1_0_1_2
    (broadcastInDim S2x8192x32 ![0, 1, 2] bcast_S2x1x1_S2x8192x32_0_1_2
      (select (cmpi .slt (broadcastInDim S2x1x1 ![0] bcast_S2_S2x1x1_0 (iotaInDim S2 32 0))
          (broadcastInDim S2x1x1 ![] bcast_S_S2x1x1 (constantI S_ 32 0#32)))
        (addi (broadcastInDim S2x1x1 ![0] bcast_S2_S2x1x1_0 (iotaInDim S2 32 0))
          (broadcastInDim S2x1x1 ![] bcast_S_S2x1x1 (constantI S_ 32 2#32)))
        (broadcastInDim S2x1x1 ![0] bcast_S2_S2x1x1_0 (iotaInDim S2 32 0))))

/-- The positions picked, counted from the end when negative. -/
def place (ix : IVec S2x8192x32 32) : IVec S2x8192x32x1 32 :=
  broadcastInDim S2x8192x32x1 ![0, 1, 2] bcast_S2x8192x32_S2x8192x32x1_0_1_2
    (select (cmpi .slt ix (broadcastInDim S2x8192x32 ![] bcast_S_S2x8192x32 (constantI S_ 32 0#32)))
      (addi ix (broadcastInDim S2x8192x32 ![] bcast_S_S2x8192x32 (constantI S_ 32 8192#32))) ix)

/-- Where each position picked is read from the level's rows. -/
def where_ (ix : IVec S2x8192x32 32) : IVec S2x8192x32x2 32 :=
  concatenate S2x8192x32x2 3 [⟨S2x8192x32x1, batch⟩, ⟨S2x8192x32x1, place ix⟩] concatenates_S2x8192x32x1_S2x8192x32x1_S2x8192x32x2_d3

/-- The level's rows at the positions picked. -/
def rows (x : FVec F S2x8192x128 .f32) (ix : IVec S2x8192x32 32) : FVec F S2x8192x32x128 .f32 :=
  Host.gather gather_S2x8192x128_S2x8192x32x2_S2x8192x32x128_3_01_n_n_01_3_11128 x (where_ ix)

/-- The weighted average over the positions picked. -/
def average (w : FVec F S2x8192x32x128 .f32) (y : FVec F S2x8192x32x128 .f32) : FVec F S2x8192x128 .f32 :=
  Host.divf (Host.reduceAdd (mulf w y) (constant S_ .f32 0x00000000#32) reducesTo_S2x8192x32x128_S2x8192x128_d2 h_S_)
    (addf (Host.reduceAdd w (constant S_ .f32 0x00000000#32) reducesTo_S2x8192x32x128_S2x8192x128_d2 h_S_)
      (broadcastInDim S2x8192x128 ![] bcast_S_S2x8192x128 (constant S_ .f32 0x3089705F#32)))

/-- The reference's result from its arguments. -/
def answer (x : FVec F S2x8192x128 .f32) (d : FVec F S2x8192x8192 .f32) (sigma : FVec F S128 .f32) : FVec F S2x8192x128 .f32 :=
  average (weights (picked d).1 sigma) (rows x (picked d).2)

set_option maxRecDepth 8192 in
/-- The composed term the run states is the named one. -/
theorem res_eq (m : (ℓ : Loc nD τ sig) → Buf (Elt F) ℓ) (c : Dev nD) :
    Value.res_main_v43 m c = answer (m ((c.tc : Thread nD τ).loc main_arg0))
      (squared (taken (m ((c.tc : Thread nD τ).loc main_arg4)) (m ((c.tc : Thread nD τ).loc main_arg2)))
        (taken (m ((c.tc : Thread nD τ).loc main_arg3)) (m ((c.tc : Thread nD τ).loc main_arg1))))
      (m ((c.tc : Thread nD τ).loc main_arg5)) := by
  unfold Value.res_main_v43
  rfl

/-- A squared distance is the sum of the squares of the two coordinates' differences. -/
theorem squared_at (o p : FVec Ideal S2x8192x2 .f32) (b : Fin 2) (q n : Fin 8192) :
    squared o p (ix3 b q n) = (o (ix3 b q 0) - p (ix3 b n 0)) * (o (ix3 b q 0) - p (ix3 b n 0))
      + (o (ix3 b q 1) - p (ix3 b n 1)) * (o (ix3 b q 1) - p (ix3 b n 1)) := by
  pointwise [squared, apart]
  exact Fin.sum_univ_two _

/-- A weight: the exponential of the negated distance over twice the square of the feature's width. -/
theorem weights_at (v : FVec Ideal S2x8192x32 .f32) (sigma : FVec Ideal S128 .f32) (b : Fin 2) (q : Fin 8192) (k : Fin 32)
    (j : Fin 128) : weights v sigma (ix4 b q k j)
      = Ideal.exp (Ideal.div (- -v (ix3 b q k)) (Ideal.ofBits FTy.f32 1073741824#32 * (sigma (ix1 j) * sigma (ix1 j)))) := by
  pointwise [weights]

theorem average_at (w y : FVec Ideal S2x8192x32x128 .f32) (b : Fin 2) (q : Fin 8192) (j : Fin 128) :
    average w y (ix3 b q j) = Ideal.div (∑ k : Fin 32, w (ix4 b q k j) * y (ix4 b q k j))
      (∑ k : Fin 32, w (ix4 b q k j) + Ideal.ofBits FTy.f32 814313567#32) := by
  pointwise [average]

theorem where_batch (ix : IVec S2x8192x32 32) (b : Fin 2) (q : Fin 8192) (k : Fin 32) :
    where_ ix (ix4 b q k 0) = BitVec.ofNat 32 b := by
  pointwise [where_, batch, place]
  revert b
  decide

theorem where_place (ix : IVec S2x8192x32 32) (b : Fin 2) (q : Fin 8192) (k : Fin 32) (n : Fin 8192)
    (h : ix (ix3 b q k) = BitVec.ofNat 32 n) : where_ ix (ix4 b q k 1) = BitVec.ofNat 32 n := by
  pointwise [where_, batch, place]
  rw [h]
  have hn : (BitVec.ofNat 32 n.val).toInt = n.val := by
    have := n.isLt
    have e : (BitVec.ofNat 32 n.val).toNat = n.val := by rw [BitVec.toNat_ofNat]; exact Nat.mod_eq_of_lt (by omega)
    rw [BitVec.toInt_eq_toNat_of_lt (by rw [e]; omega), e]
  have hc : IntOp.cmpi .slt (BitVec.ofNat 32 n.val) 0#32 = 0#1 := by
    show BitVec.ofBool (BitVec.slt _ _) = 0#1
    rw [show BitVec.slt (BitVec.ofNat 32 n.val) 0#32 = false by
      rw [BitVec.slt, decide_eq_false_iff_not, hn, show (0#32 : BitVec 32).toInt = 0 by decide]; omega]
    rfl
  rw [hc]
  rfl

/-- The level's row read at a position picked. -/
theorem rows_at (x : FVec Ideal S2x8192x128 .f32) (ix : IVec S2x8192x32 32) (b : Fin 2) (q : Fin 8192) (k : Fin 32) (j : Fin 128)
    (n : Fin 8192) (h : ix (ix3 b q k) = BitVec.ofNat 32 n) : rows x ix (ix4 b q k j) = x (ix3 b n j) := by
  unfold rows Host.gather
  congr 1
  have e0 : ∀ h, GatherDims.siIdx gather_S2x8192x128_S2x8192x32x2_S2x8192x32x128_3_01_n_n_01_3_11128 (ix4 b q k j) ⟨0, h⟩
      = ix4 b q k 0 := by
    intro h
    funext a
    match a with
    | ⟨0, _⟩ => rfl
    | ⟨1, _⟩ => rfl
    | ⟨2, _⟩ => rfl
    | ⟨3, _⟩ => rfl
  have e1 : ∀ h, GatherDims.siIdx gather_S2x8192x128_S2x8192x32x2_S2x8192x32x128_3_01_n_n_01_3_11128 (ix4 b q k j) ⟨1, h⟩
      = ix4 b q k 1 := by
    intro h
    funext a
    match a with
    | ⟨0, _⟩ => rfl
    | ⟨1, _⟩ => rfl
    | ⟨2, _⟩ => rfl
    | ⟨3, _⟩ => rfl
  funext a
  apply Fin.ext
  match a with
  | ⟨0, _⟩ =>
    have g : 0 < (GatherDims.startIndexMap gather_S2x8192x128_S2x8192x32x2_S2x8192x32x128_3_01_n_n_01_3_11128).length := by decide
    show min (where_ ix (GatherDims.siIdx gather_S2x8192x128_S2x8192x32x2_S2x8192x32x128_3_01_n_n_01_3_11128 (ix4 b q k j) ⟨0, g⟩)).toInt.toNat 1 + 0 + 0 = b.val
    rw [e0, where_batch]
    clear e0 e1 h
    revert b
    decide
  | ⟨1, _⟩ =>
    have g : 1 < (GatherDims.startIndexMap gather_S2x8192x128_S2x8192x32x2_S2x8192x32x128_3_01_n_n_01_3_11128).length := by decide
    show min (where_ ix (GatherDims.siIdx gather_S2x8192x128_S2x8192x32x2_S2x8192x32x128_3_01_n_n_01_3_11128 (ix4 b q k j) ⟨1, g⟩)).toInt.toNat 8191 + 0 + 0 = n.val
    rw [e1, where_place ix b q k n h]
    have := n.isLt
    have e : (BitVec.ofNat 32 n.val).toNat = n.val := by rw [BitVec.toNat_ofNat]; exact Nat.mod_eq_of_lt (by omega)
    rw [BitVec.toInt_eq_toNat_of_lt (by rw [e]; omega), e]
    omega
  | ⟨2, _⟩ =>
    show 0 + 0 + j.val = j.val
    omega

/-- One of a row's first 32 places. -/
def early (k : Fin 32) : Fin 8192 := ⟨k.val, by omega⟩

/-- A row's positions, nearest first. -/
def order (D : Fin 8192 → EReal) : Fin 8192 → Fin 8192 := sortedFrom fun k k' => decide (D k < D k')

theorem along_last (b : Fin 2) (q n n' : Fin 8192) :
    (ix3 b q n : S2x8192x8192.Idx).along 2 n' = ix3 b q n' := by
  funext a
  match a with
  | ⟨0, _⟩ => rfl
  | ⟨1, _⟩ => rfl
  | ⟨2, _⟩ => rfl

theorem along_word (b : Fin 2) (q n : Fin 8192) (n' : Fin (S2x8192x8192.size 2)) :
    BitVec.ofNat 32 ((ix3 b q n : S2x8192x8192.Idx).along 2 n' 2).val = BitVec.ofNat 32 n'.val :=
  congrArg (fun z : S2x8192x8192.Idx => BitVec.ofNat 32 (z 2).val) (along_last b q n n')

/-- The order the positions are picked in: by distance, nearest first. -/
theorem before_eq (d : FVec Ideal S2x8192x8192 .f32) (b : Fin 2) (q n : Fin 8192) :
    (fun k k' : Fin 8192 => FloatOps.cmpfTotal (F := Ideal) (φ := .f32) CmpDirection.gt (Host.negf d ((ix3 b q n : S2x8192x8192.Idx).along 2 k))
        (Host.negf d ((ix3 b q n : S2x8192x8192.Idx).along 2 k')) == 1#1)
      = fun k k' => decide (d (ix3 b q k) < d (ix3 b q k')) := by
  funext k k'
  rw [along_last, along_last]
  show (BitVec.ofBool (decide (- d (ix3 b q k') < - d (ix3 b q k))) == 1#1) = _
  rw [decide_eq_decide.mpr (EReal.neg_lt_neg_iff (a := d (ix3 b q k')) (b := d (ix3 b q k)))]
  generalize decide (d (ix3 b q k) < d (ix3 b q k')) = c
  revert c; decide

theorem picked_value (d : FVec Ideal S2x8192x8192 .f32) (b : Fin 2) (q : Fin 8192) (k : Fin 32) :
    (picked d).1 (ix3 b q k) = - d (ix3 b q (order (fun n => d (ix3 b q n)) (early k))) := by
  have e : (picked d).1 (ix3 b q k) = Host.negf d ((ix3 b q (early k) : S2x8192x8192.Idx).along 2
      (sortedFrom (fun k₁ k' : Fin 8192 => FloatOps.cmpfTotal (F := Ideal) (φ := .f32) CmpDirection.gt
        (Host.negf d ((ix3 b q (early k) : S2x8192x8192.Idx).along 2 k₁))
        (Host.negf d ((ix3 b q (early k) : S2x8192x8192.Idx).along 2 k')) == 1#1) (early k))) := by
    pointwise [picked, Host.topK, Host.sort2]
    rfl
  rw [e, before_eq]
  exact congrArg (fun z : S2x8192x8192.Idx => Host.negf d z)
    (along_last b q (early k) (order (fun n => d (ix3 b q n)) (early k)))

theorem picked_place (d : FVec Ideal S2x8192x8192 .f32) (b : Fin 2) (q : Fin 8192) (k : Fin 32) :
    (picked d).2 (ix3 b q k) = BitVec.ofNat 32 (order (fun n => d (ix3 b q n)) (early k)) := by
  have e : (picked d).2 (ix3 b q k) = BitVec.ofNat 32 (
      (sortedFrom (fun k₁ k' : Fin 8192 => FloatOps.cmpfTotal (F := Ideal) (φ := .f32) CmpDirection.gt
        (Host.negf d ((ix3 b q (early k) : S2x8192x8192.Idx).along 2 k₁))
        (Host.negf d ((ix3 b q (early k) : S2x8192x8192.Idx).along 2 k')) == 1#1) (early k))).val := by
    pointwise [picked, Host.topK, Host.sort2]
    exact along_word b q (early k) _
  rw [e, before_eq]
  rfl

/-- The reference's result at an element. -/
theorem answer_at (x : FVec Ideal S2x8192x128 .f32) (d : FVec Ideal S2x8192x8192 .f32) (sigma : FVec Ideal S128 .f32)
    (b : Fin 2) (q : Fin 8192) (j : Fin 128) :
    answer x d sigma (ix3 b q j)
      = Ideal.div (∑ k : Fin 32, Ideal.exp (Ideal.div (-d (ix3 b q (order (fun n => d (ix3 b q n)) (early k))))
            (Ideal.ofBits FTy.f32 1073741824#32 * (sigma (ix1 j) * sigma (ix1 j))))
          * x (ix3 b (order (fun n => d (ix3 b q n)) (early k)) j))
        (∑ k : Fin 32, Ideal.exp (Ideal.div (-d (ix3 b q (order (fun n => d (ix3 b q n)) (early k))))
            (Ideal.ofBits FTy.f32 1073741824#32 * (sigma (ix1 j) * sigma (ix1 j))))
          + Ideal.ofBits FTy.f32 814313567#32) := by
  unfold answer
  rw [average_at]
  have hw : ∀ k : Fin 32, weights (picked d).1 sigma (ix4 b q k j)
      = Ideal.exp (Ideal.div (-d (ix3 b q (order (fun n => d (ix3 b q n)) (early k))))
            (Ideal.ofBits FTy.f32 1073741824#32 * (sigma (ix1 j) * sigma (ix1 j)))) := fun k => by
    rw [weights_at, picked_value, neg_neg]
  have hr : ∀ k : Fin 32, rows x (picked d).2 (ix4 b q k j)
      = x (ix3 b (order (fun n => d (ix3 b q n)) (early k)) j) := fun k =>
    rows_at x _ b q k j _ (picked_place d b q k)
  simp only [hw, hr]

end Cert.ReferenceIdeal.Own

end
-- ==== Proof.Nearest.lean ====
/-
  The 32 nearest of a row: the positions picked are the first 32 by distance and, where distances are equal, by
  position.
-/
module

public import proofs.«01_k».proof.Proof.Rank
public import proofs.«01_k».proof.Proof.Ref
public import Idealize.ShloMosaic.Lib.SortFacts

@[expose] public section

noncomputable section

namespace Cert.Nearest

open Cert.KernelIdeal.Own (nLt nLe upTo)
open Cert.ReferenceIdeal.Own (order early)
open Idealize.ShloMosaic

variable (D : Fin 8192 → EReal)

/-- The 32nd smallest distance of a row. -/
def far : EReal := D (order D (early 31))

/-- A later position is not nearer than an earlier one. -/
theorem order_le (i j : Fin 8192) (h : i < j) : D (order D i) ≤ D (order D j) := by
  have hn := sortedFrom_noInversion (fun k k' => decide (D k < D k')) (fun k k' => decide (D k < D k'))
    (fun a b hab => decide_eq_false (not_lt.mpr (of_decide_eq_true hab).le)) (fun _ _ hab => hab)
    (fun a b c hab hbc => decide_eq_false (not_lt.mpr
      ((not_lt.mp (of_decide_eq_false hbc)).trans (not_lt.mp (of_decide_eq_false hab))))) i j h
  exact not_lt.mp (of_decide_eq_false hn)

theorem order_injective : Function.Injective (order D) := sortedFrom_injective _

theorem early_injective : Function.Injective early := fun i j h => by
  have hv : (early i).val = (early j).val := congrArg Fin.val h
  exact Fin.ext hv

/-- A picked position. -/
def pick (k : Fin 32) : Fin 8192 := order D (early k)

theorem pick_injective : Function.Injective (pick D) := fun i j h => by
  unfold pick at h
  exact early_injective (order_injective D h)

/-- Every picked distance is at most the 32nd. -/
theorem pick_le (k : Fin 32) : D (pick D k) ≤ far D := by
  rcases eq_or_lt_of_le (show k ≤ 31 from Fin.le_last k) with h | h
  · subst h; exact le_refl _
  · exact order_le D _ _ h

/-- The positions picked, as a set. -/
def picks : Finset (Fin 8192) := Finset.univ.image (pick D)

theorem card_picks : (picks D).card = 32 := by
  rw [picks, Finset.card_image_of_injective _ (pick_injective D)]; simp

theorem picks_sub : picks D ⊆ Finset.univ.filter fun k => D k ≤ far D := fun n hn => by
  obtain ⟨k, _, rfl⟩ := Finset.mem_image.mp hn
  exact Finset.mem_filter.mpr ⟨Finset.mem_univ _, pick_le D k⟩

/-- At least 32 distances are at most the 32nd. -/
theorem le_nLe_far : 32 ≤ nLe D (far D) := card_picks D ▸ Finset.card_le_card (picks_sub D)

/-- Fewer than 32 distances are below the 32nd. -/
theorem nLt_far : nLt D (far D) < 32 := by
  have hs : (Finset.univ.filter fun k => D k < far D) ⊆ (picks D).erase (pick D 31) := fun n hn => by
    have hn := (Finset.mem_filter.mp hn).2
    obtain ⟨i, rfl⟩ := sortedFrom_surjective (fun k k' => decide (D k < D k')) n
    have hi : i < early 31 := by
      by_contra hc
      rcases eq_or_lt_of_le (not_lt.mp hc) with e | e
      · subst e; exact lt_irrefl _ hn
      · exact absurd hn (not_lt.mpr (order_le D _ _ e))
    have hv : i.val < 31 := hi
    refine Finset.mem_erase.mpr ⟨fun e => ?_, ?_⟩
    · unfold pick at e
      exact (ne_of_lt hi) (order_injective D e)
    · have hp : pick D ⟨i.val, by omega⟩ = order D i := by unfold pick; exact congrArg _ (Fin.ext rfl)
      exact Finset.mem_image.mpr ⟨_, Finset.mem_univ _, hp⟩
  have hc := Finset.card_le_card hs
  have hm : pick D 31 ∈ picks D := Finset.mem_image_of_mem _ (Finset.mem_univ _)
  rw [Finset.card_erase_of_mem hm, card_picks] at hc
  exact lt_of_le_of_lt hc (by norm_num)

/-- One position comes before another: it is nearer, or as near and lower. -/
def Before {N : ℕ} (D : Fin N → EReal) (a b : Fin N) : Prop := D a < D b ∨ D a = D b ∧ a < b

/-- Inserting a position lower than the others keeps them in order. -/
theorem insert_before {N : ℕ} (D : Fin N → EReal) (a : Fin N) : ∀ l : List (Fin N), (∀ b ∈ l, a < b) → l.Pairwise (Before D) →
    (insertBefore (fun k k' => decide (D k < D k')) a l).Pairwise (Before D)
  | [], _, _ => List.pairwise_singleton _ _
  | b :: l, ha, hl => by
    obtain ⟨hb, hl'⟩ := List.pairwise_cons.mp hl
    unfold insertBefore
    by_cases h : D b < D a
    · rw [if_pos (decide_eq_true h)]
      refine List.pairwise_cons.mpr ⟨fun c hc => ?_, insert_before D a l (fun c hc => ha c (List.mem_cons_of_mem _ hc)) hl'⟩
      rcases List.mem_cons.mp ((perm_insertBefore _ a l).mem_iff.mp hc) with rfl | hc
      · exact Or.inl h
      · exact hb c hc
    · rw [if_neg (by rw [decide_eq_true_iff]; exact h)]
      refine List.pairwise_cons.mpr ⟨fun c hc => ?_, hl⟩
      have hac := ha c hc
      have hbc : D b ≤ D c := by
        rcases List.mem_cons.mp hc with rfl | hc
        · exact le_refl _
        · rcases hb c hc with h' | h'
          · exact h'.le
          · exact h'.1.le
      rcases eq_or_lt_of_le ((not_lt.mp h).trans hbc) with e | e
      · exact Or.inr ⟨e, hac⟩
      · exact Or.inl e

theorem sort_before {N : ℕ} (D : Fin N → EReal) : ∀ l : List (Fin N), l.Pairwise (· < ·) →
    (stableSort (fun k k' => decide (D k < D k')) l).Pairwise (Before D)
  | [], _ => List.Pairwise.nil
  | a :: l, h => by
    obtain ⟨ha, hl⟩ := List.pairwise_cons.mp h
    unfold stableSort
    exact insert_before D a _ (fun b hb => ha b ((perm_stableSort _ l).mem_iff.mp hb)) (sort_before D l hl)

theorem sorted_before {N : ℕ} (D : Fin N → EReal) (i j : Fin N) (h : i < j) :
    Before D (sortedFrom (fun k k' => decide (D k < D k')) i) (sortedFrom (fun k k' => decide (D k < D k')) j) :=
  List.pairwise_iff_get.mp (sort_before D (List.finRange N) (List.pairwise_lt_finRange N)) _ _ h

/-- The order puts nearer positions first, and of those as near the lower. -/
theorem order_before (i j : Fin 8192) (h : i < j) : Before D (order D i) (order D j) := sorted_before D i j h

/-- What comes before a picked position is picked. -/
theorem picks_closed (n m : Fin 8192) (hn : n ∈ picks D) (h : Before D m n) : m ∈ picks D := by
  obtain ⟨i, -, rfl⟩ := Finset.mem_image.mp hn
  obtain ⟨j, rfl⟩ := sortedFrom_surjective (fun k k' => decide (D k < D k')) m
  have hj : j < early i := by
    by_contra hc
    rcases eq_or_lt_of_le (not_lt.mp hc) with e | e
    · subst e
      rcases h with h | h
      · exact lt_irrefl _ h
      · exact lt_irrefl _ h.2
    · rcases order_before D _ _ e with h' | h' <;> rcases h with h | h
      · exact lt_asymm h h'
      · exact absurd h.1 h'.ne'
      · exact absurd h'.1 h.ne'
      · exact lt_asymm h.2 h'.2
  have hv : j.val < i.val := hj
  have hi := i.isLt
  have hp : pick D ⟨j.val, by omega⟩ = order D j := by unfold pick; exact congrArg _ (Fin.ext rfl)
  exact Finset.mem_image.mpr ⟨_, Finset.mem_univ _, hp⟩

/-- Any 32 positions with all that come before them are those picked. -/
theorem picks_eq (S : Finset (Fin 8192)) (hc : S.card = 32) (hS : ∀ n ∈ S, ∀ m, Before D m n → m ∈ S) : picks D = S := by
  have hsub : picks D ⊆ S := fun n hn => by
    by_contra hnS
    have hs : S ⊆ picks D := fun m hm => by
      refine picks_closed D n m hn ?_
      rcases lt_trichotomy (D m) (D n) with h | h | h
      · exact Or.inl h
      · rcases lt_trichotomy m n with h' | h' | h'
        · exact Or.inr ⟨h, h'⟩
        · exact absurd (h' ▸ hm) hnS
        · exact absurd (hS m hm n (Or.inr ⟨h.symm, h'⟩)) hnS
      · exact absurd (hS m hm n (Or.inl h)) hnS
    have e := Finset.eq_of_subset_of_card_le hs (by rw [card_picks, hc])
    exact hnS (e ▸ hn)
  exact Finset.eq_of_subset_of_card_le hsub (by rw [card_picks, hc])

/-- So the entries below a number and those at it up to a position, being 32, are those picked. -/
theorem picks_upTo (t : EReal) (P : ℕ) (h : (upTo D t P).card = 32) : picks D = upTo D t P :=
  picks_eq D _ h fun n hn m hm => by
    have hn := (Finset.mem_filter.mp hn).2
    refine Finset.mem_filter.mpr ⟨Finset.mem_univ _, ?_⟩
    rcases hm with hm | ⟨hm, hlt⟩ <;> rcases hn with hn | ⟨hn, hP⟩
    · exact Or.inl (hm.trans hn)
    · exact Or.inl (hn ▸ hm)
    · exact Or.inl (hm ▸ hn)
    · exact Or.inr ⟨hm.trans hn, (Nat.le_of_lt hlt).trans hP⟩

/-- A sum over the picks, in order or as a set. -/
theorem sum_picks {M : Type} [AddCommMonoid M] (f : Fin 8192 → M) : ∑ k : Fin 32, f (pick D k) = ∑ n ∈ picks D, f n := by
  rw [picks, Finset.sum_image fun a _ b _ e => pick_injective D e]

end Cert.Nearest

end
-- ==== Proof.Prefix.lean ====
/-
  What the host operations before the launch leave in the windows' arrays.
-/
module

public import proofs.«01_k».proof.Proof.Frame
public import proofs.«01_k».proof.Proof.Ref
public import Idealize.ShloMosaic.Lib.Pointwise

@[expose] public section

noncomputable section

namespace Cert.KernelIdeal.Own

open Idealize.ShloMosaic Idealize.ShloMosaic.TcCoe Idealize.ShloMosaic.Tactic Idealize.SL Idealize.SL.Sem
open Idealize.ShloMosaic.StableHlo
open Cert.KernelIdeal Cert.KernelIdeal.Gen
open Cert.ReferenceIdeal.Own (taken)

variable {F : FTy → Type} [FloatOps F]
variable (m : (ℓ : Loc nD τ sig) → Buf (Elt F) ℓ)

/-- The queries' coordinates. -/
def outer (c : Dev nD) : FVec F S2x8192x2 .f32 :=
  taken (m ((c.tc : Thread nD τ).loc main_arg4)) (m ((c.tc : Thread nD τ).loc main_arg2))

/-- The inputs' coordinates. -/
def inner (c : Dev nD) : FVec F S2x8192x2 .f32 :=
  taken (m ((c.tc : Thread nD τ).loc main_arg3)) (m ((c.tc : Thread nD τ).loc main_arg1))

/-- One over twice the square of the first width. -/
def scaled (s : FVec F S128 .f32) : FVec F S1x1 .f32 :=
  shapeCast S1x1 (Host.divf (constant S_ .f32 0x3F800000#32)
    (mulf (mulf (constant S_ .f32 0x40000000#32) (shapeCast S_ (extractStridedSlice S1 ![0] s slices_S128_S1_0) shapeCasts_S1_S_))
      (shapeCast S_ (extractStridedSlice S1 ![0] s slices_S128_S1_0) shapeCasts_S1_S_))) shapeCasts_S_S1x1

set_option maxRecDepth 8192 in
set_option maxHeartbeats 4000000 in
theorem V_outer (c : Dev nD) : V m c main_call0_v0 = outer m c := by
  unfold V
  simp only [hostOps0, TRef.binary, TRef.nullary, TRef.ternary, TRef.unary, TRef.reshape, TRef.toBuf, TRef.ofBuf, cast_eq]
  after_results_simp <;> rfl

set_option maxRecDepth 8192 in
set_option maxHeartbeats 4000000 in
theorem V_inner (c : Dev nD) :
    V m c main_call0_v2 = transpose S2x2x8192 [0, 2, 1] (inner m c) transposes_S2x8192x2_S2x2x8192_0_2_1 := by
  unfold V
  simp only [hostOps0, TRef.binary, TRef.nullary, TRef.ternary, TRef.unary, TRef.reshape, TRef.toBuf, TRef.ofBuf, cast_eq]
  after_results_simp <;> rfl

set_option maxRecDepth 8192 in
set_option maxHeartbeats 4000000 in
theorem V_scale (c : Dev nD) : V m c main_call0_v10 = scaled (m ((c.tc : Thread nD τ).loc main_arg5)) := by
  unfold V
  simp only [hostOps0, TRef.binary, TRef.nullary, TRef.ternary, TRef.unary, TRef.reshape, TRef.toBuf, TRef.ofBuf, cast_eq]
  after_results_simp <;> rfl

/-- The scale. -/
theorem scaled_at (s : FVec Ideal S128 .f32) : scaled s (ix2 0 0)
    = Ideal.div (Ideal.ofBits .f32 0x3F800000#32) (Ideal.ofBits .f32 0x40000000#32 * s (ix1 0) * s (ix1 0)) := by
  pointwise [scaled]

theorem transposed_at (p : FVec Ideal S2x8192x2 .f32) (b : Fin 2) (a : Fin 2) (k : Fin 8192) :
    transpose S2x2x8192 [0, 2, 1] p transposes_S2x8192x2_S2x2x8192_0_2_1 (ix3 b a k) = p (ix3 b k a) := by
  pointwise []

end Cert.KernelIdeal.Own

end
-- ==== Proof.Block.lean ====
/-
  What one block's result holds at an element: the weighted average over the 32 nearest of the row.
-/
module

public import proofs.«01_k».proof.Proof.Nearest
public import Idealize.ShloMosaic.Lib.Pipeline.ValueKit

@[expose] public section

noncomputable section

namespace Cert.KernelIdeal.Own

open Cert.KernelIdeal Cert.KernelIdeal.Gen Cert.Word
open Cert.Nearest (far picks nLt_far le_nLe_far picks_upTo)
open Idealize.ShloMosaic Idealize.ShloMosaic.TcCoe

/-- The word standing for the left-out entries is the least number. -/
theorem left_out : Ideal.ofBits FTy.f32 4286578688#32 = ⊥ := by
  simp [Ideal.ofBits, Ideal.ieee]

/-- Two sums, over the entries kept and over the row, where the others carry nothing. -/
theorem sum_kept (p : Fin 8192 → Prop) [DecidablePred p] (e f : Fin 8192 → EReal) (x : Fin 8192 → EReal)
    (h : ∀ k, e k = if p k then f k else ⊥) :
    ∑ k, Ideal.exp (e k) * x k = ∑ k ∈ Finset.univ.filter p, Ideal.exp (f k) * x k := by
  rw [Finset.sum_filter]
  refine Finset.sum_congr rfl fun k _ => ?_
  rw [h]
  by_cases hk : p k
  · rw [if_pos hk, if_pos hk]
  · rw [if_neg hk, if_neg hk, show Ideal.exp ⊥ = 0 from rfl, zero_mul]

/-- The average over a set of entries, each weighing the exponential of minus the distance times the scale. -/
def averaged (s : Finset (Fin 8192)) (D : Fin 8192 → EReal) (a : EReal) (x : Fin 8192 → EReal) : EReal :=
  Ideal.div (∑ k ∈ s, Ideal.exp (D k * (0 - a)) * x k) (∑ k ∈ s, Ideal.exp (D k * (0 - a)) + Ideal.ofBits FTy.f32 814313567#32)

/-- The store's payload at an element, for any masks. -/
theorem pay1_at (v : FVec Ideal S128x8192 .f32) (l e : IVec S128x8192 1) (n : IVec S128x1 32)
    (a : Vec Ideal S1x1 .f32) (x : Vec Ideal S1x8192x128 .f32) (r j : Fin 128) (p : Fin 8192 → Prop) [DecidablePred p]
    (h : ∀ k : Fin 8192, IntOp.ori (l (ix2 r k)) (IntOp.andi (e (ix2 r k)) (IntOp.cmpi .sle (BitVec.ofNat 32 k) (n (ix2 r 0))))
      = BitVec.ofBool (decide (p k))) :
    k0_pay1 (F := Ideal) v l e pos n a x (ix3 0 r j)
      = averaged (Finset.univ.filter p) (row v r) (a (ix2 0 0)) fun k => x (ix3 0 k j) := by
  have hs : ∀ k : Fin 8192, Scalar.select (BitVec.ofBool (decide (p k))) (v (ix2 r k) * (0 - a (ix2 0 0)))
      (Ideal.ofBits FTy.f32 4286578688#32) = if p k then row v r k * (0 - a (ix2 0 0)) else ⊥ := fun k => by
    rw [left_out]
    by_cases hk : p k
    · rw [decide_eq_true hk, if_pos hk]; rfl
    · rw [decide_eq_false hk, if_neg hk]; rfl
  have h1 := sum_kept p _ _ (fun k => x (ix3 0 k j)) hs
  have h2 := sum_kept p _ _ (fun _ => 1) hs
  simp only [mul_one] at h2
  pointwise [k0_pay1, pos]
  simp only [h]
  rw [h1, h2]
  rfl

/-- The stored block at an element. -/
theorem stored_at (v : FVec Ideal S128x8192 .f32) (T : IVec S128x1 32) (a : Vec Ideal S1x1 .f32) (x : Vec Ideal S1x8192x128 .f32)
    (r j : Fin 128) (z : EReal) (hz1 : nLt (row v r) z < 32) (hz2 : 32 ≤ nLe (row v r) z) (hw : Reached (row v r) z) :
    stored v T a x (ix3 0 r j) = averaged (picks (row v r)) (row v r) (a (ix2 0 0)) fun k => x (ix3 0 k j) := by
  obtain ⟨t, P, hc, hk⟩ := keep_row v T r z hz1 hz2 hw
  unfold stored
  rw [pay1_at v _ _ _ a x r j (fun k => k ∈ upTo (row v r) t P) hk, picks_upTo _ t P hc, Finset.filter_univ_mem]

theorem pay12_at (v0 v2 : Vec Ideal S1x128x1 .f32) (v4 v6 : Vec Ideal S1x1x8192 .f32) (r : Fin 128) (k : Fin 8192) :
    k0_pay12 (F := Ideal) v0 v2 v4 v6 (ix2 r k) = (v0 (ix3 0 r 0) - v4 (ix3 0 0 k)) * (v0 (ix3 0 r 0) - v4 (ix3 0 0 k))
      + (v2 (ix3 0 r 0) - v6 (ix3 0 0 k)) * (v2 (ix3 0 r 0) - v6 (ix3 0 0 k)) := by
  pointwise [k0_pay12]

/-- The block of distances at an element. -/
theorem dist_at (x0 : Vec Ideal S1x128x2 .f32) (x1 : Vec Ideal S1x2x8192 .f32) (r : Fin 128) (k : Fin 8192) :
    dist x0 x1 (ix2 r k) = (x0 (ix3 0 r 0) - x1 (ix3 0 0 k)) * (x0 (ix3 0 r 0) - x1 (ix3 0 0 k))
      + (x0 (ix3 0 r 1) - x1 (ix3 0 1 k)) * (x0 (ix3 0 r 1) - x1 (ix3 0 1 k)) := by
  unfold dist
  rw [pay12_at, View.ld_unit, View.ld_unit, View.ld_unit, View.ld_unit]
  pointwise []

/-- The result's block is the store's payload. -/
theorem out_eq (x0 : Vec Ideal S1x128x2 .f32) (x1 : Vec Ideal S1x2x8192 .f32) (x2 : Vec Ideal S1x8192x128 .f32)
    (x3 : Vec Ideal S1x1 .f32) :
    out x0 x1 x2 x3
      = stored (dist x0 x1) (word (View.ld x0 rOx) (View.ld x0 rOy) (View.ld x1 rIx) (View.ld x1 rIy)) x3 x2 := by
  unfold out
  rw [View.canon_cons_unit_lit _ _ _ (by decide), View.ld_unit_lit _ _ (by decide), View.ld_unit_lit _ _ (by decide)]

theorem square_nonneg (u : EReal) : 0 ≤ u * u := by
  rcases le_total 0 u with h | h
  · exact mul_nonneg h h
  · rw [← neg_mul_neg]
    have h' : 0 ≤ -u := by rw [EReal.le_neg]; simpa using h
    exact mul_nonneg h' h'

/-- The result's block at an element. -/
theorem out_at (x0 : Vec Ideal S1x128x2 .f32) (x1 : Vec Ideal S1x2x8192 .f32) (x2 : Vec Ideal S1x8192x128 .f32)
    (x3 : Vec Ideal S1x1 .f32) (r j : Fin 128) (D : Fin 8192 → EReal)
    (hD : ∀ k : Fin 8192, D k = (x0 (ix3 0 r 0) - x1 (ix3 0 0 k)) * (x0 (ix3 0 r 0) - x1 (ix3 0 0 k))
      + (x0 (ix3 0 r 1) - x1 (ix3 0 1 k)) * (x0 (ix3 0 r 1) - x1 (ix3 0 1 k)))
    (hw : Reached D (far D)) :
    out x0 x1 x2 x3 (ix3 0 r j) = averaged (picks D) D (x3 (ix2 0 0)) fun k => x2 (ix3 0 k j) := by
  have hr : row (dist x0 x1) r = D := funext fun k => (dist_at x0 x1 r k).trans (hD k).symm
  rw [out_eq]
  subst hr
  exact stored_at _ _ x3 x2 r j _ (nLt_far _) (le_nLe_far _) hw

end Cert.KernelIdeal.Own

end
-- ==== Proof.Array.lean ====
/-
  The result's array after the launch, at an element: its block's row, over the arrays the host operations leave.
-/
module

public import proofs.«01_k».proof.Proof.Prefix
public import proofs.«01_k».proof.Proof.Block

@[expose] public section

noncomputable section

namespace Cert.KernelIdeal.Own

open Idealize.ShloMosaic Idealize.ShloMosaic.TcCoe Idealize.ShloMosaic.Tactic Idealize.SL Idealize.SL.Sem
open Idealize.ShloMosaic.Pipeline (Dat Cfg Window)
open Cert.KernelIdeal Cert.KernelIdeal.Gen Cert.Word

variable (m : (ℓ : Loc nD τ sig) → Buf (Elt Ideal) ℓ)

/-! ### The blocks' places in their arrays -/

theorem index_0 : ∀ t : Fin grid0.N, win0_0.index t = ![(grid0.coords t 0).val, (grid0.coords t 1).val, 0] := by decide +kernel
theorem index_1 : ∀ t : Fin grid0.N, win0_1.index t = ![(grid0.coords t 0).val, 0, 0] := by decide +kernel
theorem index_2 : ∀ t : Fin grid0.N, win0_2.index t = ![(grid0.coords t 0).val, 0, 0] := by decide +kernel
theorem index_3 : ∀ t : Fin grid0.N, win0_3.index t = ![0, 0] := by decide +kernel
theorem index_4 : ∀ t : Fin grid0.N, win0_4.index t = ![(grid0.coords t 0).val, (grid0.coords t 1).val, 0] := by decide +kernel
theorem small_0 : ∀ t : Fin grid0.N, (grid0.coords t 0).val < 2 := by decide +kernel
theorem small_1 : ∀ t : Fin grid0.N, (grid0.coords t 1).val < 64 := by decide +kernel

/-- The batch of a grid point. -/
def bt (t : Fin grid0.N) : Fin 2 := ⟨(grid0.coords t 0).val, small_0 t⟩

/-- The query of a row of a grid point's block. -/
def qt (t : Fin grid0.N) (r : Fin 128) : Fin 8192 := ⟨(grid0.coords t 1).val * 128 + r.val, by have := small_1 t; omega⟩

theorem block_0 (c : Dev nD) (t : Fin grid0.N) (r : Fin 128) (a : Fin 2) :
    iblk m c 0 t (ix3 0 r a) = outer m c (ix3 (bt t) (qt t r) a) := by
  have e : V m c main_call0_v0 ((win0_0.blk t).view.emb (ix3 0 r a)) = outer m c (ix3 (bt t) (qt t r) a) := by
    rw [V_outer]
    congr 1
    blk_ext [index_0, bt, qt]
  exact e

theorem block_1 (c : Dev nD) (t : Fin grid0.N) (a : Fin 2) (k : Fin 8192) :
    iblk m c 1 t (ix3 0 a k) = inner m c (ix3 (bt t) k a) := by
  have e : V m c main_call0_v2 ((win0_1.blk t).view.emb (ix3 0 a k)) = inner m c (ix3 (bt t) k a) := by
    rw [V_inner, ← transposed_at (inner m c)]
    congr 1
    blk_ext [index_1, bt, qt]
  exact e

theorem block_2 (c : Dev nD) (t : Fin grid0.N) (k : Fin 8192) (j : Fin 128) :
    iblk m c 2 t (ix3 0 k j) = m ((c.tc : Thread nD τ).loc main_arg0) (ix3 (bt t) k j) := by
  have e : V m c main_arg0 ((win0_2.blk t).view.emb (ix3 0 k j)) = m ((c.tc : Thread nD τ).loc main_arg0) (ix3 (bt t) k j) := by
    rw [(V_arg m c).1]
    congr 1
    blk_ext [index_2, bt, qt]
  exact e

theorem block_3 (c : Dev nD) (t : Fin grid0.N) :
    iblk m c 3 t (ix2 0 0) = (scaled (m ((c.tc : Thread nD τ).loc main_arg5)) : FVec Ideal S1x1 .f32) (ix2 0 0) := by
  have e : V m c main_call0_v10 ((win0_3.blk t).view.emb (ix2 0 0))
      = (scaled (m ((c.tc : Thread nD τ).loc main_arg5)) : FVec Ideal S1x1 .f32) (ix2 0 0) := by
    rw [V_scale]
    congr 1
    blk_ext [index_3]
  exact e

theorem of_block (y : S1x128x128.Idx) : y = ix3 0 (y 1) (y 2) := by
  funext a
  match a with
  | ⟨0, _⟩ => exact Subsingleton.elim (α := Fin 1) _ _
  | ⟨1, _⟩ => rfl
  | ⟨2, _⟩ => rfl

/-- The result's array is `G` when every block's row is. -/
theorem final_of (c : Dev nD) (G : FVec Ideal S2x8192x128 .f32)
    (h : ∀ (t : Fin grid0.N) (r j : Fin 128), after4 m c t (ix3 0 r j) = G (ix3 (bt t) (qt t r) j)) :
    (dats m 0 c).arrAt 4 (cfg0 (F := Ideal)).N = G := by
  refine (dats m 0 c).arrAt_eq_of_covers 4 G (by decide +kernel) fun t hf y => ?_
  blk_simp
  rw [after0_4]
  have hy := of_block y
  have he : (win0_4.blk t).view.emb y = ix3 (bt t) (qt t (y 1)) (y 2) := by
    rw [hy]
    blk_ext [index_4, bt, qt]
  exact ((congrArg (after4 m c t) hy).trans (h t (y 1) (y 2))).trans (congrArg G he.symm)

end Cert.KernelIdeal.Own

end
-- ==== Proof.Equation.lean ====
/-
  The average over the set of the 32 picked is the reference's average over them in order.
-/
module

public import proofs.«01_k».proof.Proof.Nearest
public import proofs.«01_k».proof.Proof.Array

@[expose] public section

noncomputable section

namespace Cert.Equation

open Idealize.ShloMosaic
open Cert.KernelIdeal.Own (averaged scaled scaled_at)
open Cert.Nearest (pick picks sum_picks)
open Cert.ReferenceIdeal.Own (order early answer answer_at)

theorem two_pos : Ideal.ofBits .f32 0x40000000#32 ≠ 0 := by
  simp [Ideal.ofBits, Ideal.ieee]

theorem one_word : Ideal.ofBits .f32 0x3F800000#32 = 1 := by
  simp [Ideal.ofBits, Ideal.ieee]
  rw [← EReal.coe_mul]
  norm_num

/-- A distance times minus the scale is minus the distance over twice the square of the width. -/
theorem scaled_eq (d two s : EReal) (h2 : two ≠ 0) (hs : s ≠ 0) :
    d * (0 - Ideal.div 1 (two * s * s)) = Ideal.div (-d) (two * (s * s)) := by
  have hc : two * s * s ≠ 0 := mul_ne_zero (mul_ne_zero h2 hs) hs
  rw [← mul_assoc two s s]
  unfold Ideal.div
  rw [if_neg hc, if_neg hc, one_mul, sub_eq_add_neg, zero_add, mul_neg, neg_mul]

/-- The two averages agree. -/
theorem average_eq (D : Fin 8192 → EReal) (two s s' : EReal) (h2 : two ≠ 0) (hs : s ≠ 0) (hss : s' = s)
    (x : Fin 8192 → EReal) :
    averaged (picks D) D (Ideal.div 1 (two * s * s)) x
      = Ideal.div (∑ k : Fin 32, Ideal.exp (Ideal.div (-D (order D (early k))) (two * (s' * s'))) * x (order D (early k)))
        (∑ k : Fin 32, Ideal.exp (Ideal.div (-D (order D (early k))) (two * (s' * s'))) + Ideal.ofBits FTy.f32 814313567#32) := by
  subst hss
  have h1 := sum_picks D fun k => Ideal.exp (Ideal.div (-D k) (two * (s' * s'))) * x k
  have h3 := sum_picks D fun k => Ideal.exp (Ideal.div (-D k) (two * (s' * s')))
  unfold pick at h1 h3
  rw [h1, h3]
  unfold averaged
  simp only [scaled_eq _ two s' h2 hs]

end Cert.Equation

end
-- ==== Proof.Pre.lean ====
/-
  The precondition, read: what it says of the widths, and that some word's number is the 32nd smallest distance or is not
  below it with exactly 32 distances at most it.
-/
module

public import proofs.«01_k».proof.Pre_nearest_stand_apart
public import proofs.«01_k».proof.Proof.Nearest
public import Idealize.ShloMosaic.Lib.Pointwise

@[expose] public section

noncomputable section

namespace Cert.Pre_nearest_stand_apart.Own

open Idealize.ShloMosaic
open Cert.Pre_nearest_stand_apart Facts
open Cert.ReferenceIdeal.Own (squared taken picked picked_value)
open Cert.KernelIdeal.Own (nLe Reached)
open Cert.Nearest (far)
open Cert.Word

set_option maxRecDepth 8192 in
theorem facts : Cert.Pre_nearest_stand_apart.Facts where
  bcast_S_S2x8192 := Cert.ReferenceIdeal.Gen.bcast_S_S2x8192
  bcast_S2x8192_S2x8192x1_0_1 := Cert.ReferenceIdeal.Gen.bcast_S2x8192_S2x8192x1_0_1
  bcast_S_S2x8192x1 := Cert.ReferenceIdeal.Gen.bcast_S_S2x8192x1
  bcast_S1_S1x1x1_2 := Cert.ReferenceIdeal.Gen.bcast_S1_S1x1x1_2
  bcast_S1x1x1_S2x8192x1_0_1_2 := Cert.ReferenceIdeal.Gen.bcast_S1x1x1_S2x8192x1_0_1_2
  reducesTo_S2x8192x1_S2x8192_d2 := Cert.ReferenceIdeal.Gen.reducesTo_S2x8192x1_S2x8192_d2
  h_S_ := Cert.ReferenceIdeal.Gen.h_S_
  bcast_S2x8192_S2x8192x2_0_1 := Cert.ReferenceIdeal.Gen.bcast_S2x8192_S2x8192x2_0_1
  bcast_S_S2x8192x2 := Cert.ReferenceIdeal.Gen.bcast_S_S2x8192x2
  bcast_S2x8192x2_S2x8192x1x2_0_1_3 := Cert.ReferenceIdeal.Gen.bcast_S2x8192x2_S2x8192x1x2_0_1_3
  bcast_S2x8192x2_S2x1x8192x2_0_2_3 := Cert.ReferenceIdeal.Gen.bcast_S2x8192x2_S2x1x8192x2_0_2_3
  bcast_S2x8192x1x2_S2x8192x8192x2_0_1_2_3 := Cert.ReferenceIdeal.Gen.bcast_S2x8192x1x2_S2x8192x8192x2_0_1_2_3
  bcast_S2x1x8192x2_S2x8192x8192x2_0_1_2_3 := Cert.ReferenceIdeal.Gen.bcast_S2x1x8192x2_S2x8192x8192x2_0_1_2_3
  reducesTo_S2x8192x8192x2_S2x8192x8192_d3 := Cert.ReferenceIdeal.Gen.reducesTo_S2x8192x8192x2_S2x8192x8192_d3
  sliceFits_S2x8192x8192_S2x8192x32 := Cert.ReferenceIdeal.Gen.sliceFits_S2x8192x8192_S2x8192x32
  slices_S2x8192x32_S2x8192x1_0_0_31 := by decide
  bcast_S2x8192x1_S2x8192x8192_0_1_2 := by decide
  bcast_S_S253 := by decide
  bcast_S253_S1x1x253_2 := by decide
  bcast_S2x8192x1_S2x8192x253_0_1_2 := by decide
  bcast_S1x1x253_S2x8192x253_0_1_2 := by decide
  bcast_S_S2x8192x253 := by decide
  reducesTo_S2x8192x253_S2x8192_d2 := by decide
  natLt_1_32 := by decide
  reducesTo_S2x8192x8192_S2x8192_d2 := by decide
  slices_S128_S1_0 := by decide
  shapeCasts_S1_S_ := by decide
  bcast_S_S128 := Cert.ReferenceIdeal.Gen.bcast_S_S128
  bcast_S128_S1x1x128_2 := by decide
  bcast_S2x8192x1_S2x8192x128_0_1_2 := by decide
  bcast_S1x1x128_S2x8192x128_0_1_2 := by decide
  gather_S65536x2_S2x8192x1_S2x8192x2_2_0_n_n_0_2_12_wf := Cert.ReferenceIdeal.Gen.gather_S65536x2_S2x8192x1_S2x8192x2_2_0_n_n_0_2_12_wf

instance : Cert.Pre_nearest_stand_apart.Facts := facts

/-- The four conditions at an element. -/
theorem part_at (sigma : FVec Ideal S128 .f32) (z l : FVec Ideal S2x8192x1 .f32) (k : IVec S2x8192x8192 1) (b : Fin 2)
    (q : Fin 8192) (j : Fin 128) : fn_part2 (F := Ideal) sigma z l k (ix3 b q j)
      = IntOp.andi (IntOp.andi (IntOp.andi (IntOp.ori
          (IntOp.cmpi CmpIPredicate.eq (Finset.fold IntOp.addi (0#32) (fun x => BitVec.setWidth 32 (k (ix3 b q x))) Finset.univ) 32#32)
          (BitVec.ofBool (decide (l (ix3 b q 0) = z (ix3 b q 0)))))
          (BitVec.ofBool (decide (l (ix3 b q 0) ≤ Ideal.ofBits FTy.f32 2139095039#32))))
        (BitVec.ofBool (decide (sigma (ix1 j) = sigma (ix1 0)))))
      (BitVec.ofBool (decide (sigma (ix1 j) ≠ 0))) := by
  pointwise [fn_part2, fn_part3]

/-- The 32nd smallest distance of every row, as the values picked give it. -/
def last (d : FVec Ideal S2x8192x8192 .f32) : FVec Ideal S2x8192x1 .f32 :=
  Host.negf (extractStridedSlice S2x8192x1 ![0, 0, 31] (picked d).1 slices_S2x8192x32_S2x8192x1_0_0_31)

theorem last_at (d : FVec Ideal S2x8192x8192 .f32) (b : Fin 2) (q : Fin 8192) :
    last d (ix3 b q 0) = far fun n => d (ix3 b q n) := by
  have e : last d (ix3 b q 0) = - (picked d).1 (ix3 b q 31) := by
    unfold last
    generalize (picked d).1 = v
    pointwise []
  rw [e, picked_value, neg_neg]
  rfl

/-- The powers of two from a list of exponents' words. -/
def powers (e : IVec S253 32) : FVec Ideal S253 .f32 :=
  bitcastToFloat .f32 (Host.shli e (broadcastInDim S253 ![] bcast_S_S253 (constantI S_ 32 23#32)))

/-- The exponents' words. -/
def exponents : IVec S253 32 := addi (broadcastInDim S253 ![] bcast_S_S253 (constantI S_ 32 1#32)) (iotaInDim S253 32 0)

/-- The numbers of units, rounded up. -/
def wholes (z : FVec Ideal S2x8192x1 .f32) : FVec Ideal S2x8192x253 .f32 :=
  Host.ceil (mulf (broadcastInDim S2x8192x253 ![0, 1, 2] bcast_S2x8192x1_S2x8192x253_0_1_2 z)
    (broadcastInDim S2x8192x253 ![0, 1, 2] bcast_S1x1x253_S2x8192x253_0_1_2
      (broadcastInDim S1x1x253 ![2] bcast_S253_S1x1x253_2
        (powers (subi (broadcastInDim S253 ![] bcast_S_S253 (constantI S_ 32 254#32)) exponents)))))

/-- The least of the numbers rounded up. -/
def least (z : FVec Ideal S2x8192x1 .f32) : FVec Ideal S2x8192x1 .f32 :=
  broadcastInDim S2x8192x1 ![0, 1] bcast_S2x8192_S2x8192x1_0_1
    (Host.reduce FloatOps.minimumf
      (fn_where_0 (F := Ideal) (cmpf .ole (wholes z) (broadcastInDim S2x8192x253 ![] bcast_S_S2x8192x253 (constant S_ .f32 0x4B800000#32)))
        (mulf (wholes z) (broadcastInDim S2x8192x253 ![0, 1, 2] bcast_S1x1x253_S2x8192x253_0_1_2
          (broadcastInDim S1x1x253 ![2] bcast_S253_S1x1x253_2 (powers exponents))))
        (constant S_ .f32 0x7F800000#32))
      (constant S_ .f32 0x7F800000#32) reducesTo_S2x8192x253_S2x8192_d2 h_S_)

/-- The marks of the distances at most a number. -/
def marks (d : FVec Ideal S2x8192x8192 .f32) (l : FVec Ideal S2x8192x1 .f32) : IVec S2x8192x8192 1 :=
  cmpf .ole d (broadcastInDim S2x8192x8192 ![0, 1, 2] bcast_S2x8192x1_S2x8192x8192_0_1_2 l)

theorem marks_at (d : FVec Ideal S2x8192x8192 .f32) (z : FVec Ideal S2x8192x1 .f32) (b : Fin 2) (q n : Fin 8192) :
    marks d z (ix3 b q n) = BitVec.ofBool (decide (d (ix3 b q n) ≤ z (ix3 b q 0))) := by
  pointwise [marks]

theorem shli_small (n : ℕ) : IntOp.shli ArithUnit.host (BitVec.ofNat 32 n) 23#32 = BitVec.ofNat 32 (n * 2 ^ 23) := by
  show BitVec.ofNat 32 n <<< 23 = _
  apply BitVec.eq_of_toNat_eq
  rw [BitVec.toNat_shiftLeft, BitVec.toNat_ofNat, BitVec.toNat_ofNat, Nat.shiftLeft_eq, Nat.mod_mul_mod]

theorem powers_at (w : IVec S253 32) (e : Fin 253) (n : ℕ) (h : w (ix1 e) = BitVec.ofNat 32 n) :
    powers w (ix1 e) = val (BitVec.ofNat 32 (n * 2 ^ 23)) := by
  pointwise [powers]
  rw [h, shli_small]
  rfl

theorem exponents_at (e : Fin 253) : exponents (ix1 e) = BitVec.ofNat 32 (e.val + 1) := by
  pointwise [exponents]
  show BitVec.ofNat 32 1 + BitVec.ofNat 32 e.val = _
  rw [← BitVec.ofNat_add, Nat.add_comm]

/-- The exponents' words counted down. -/
def opposite : IVec S253 32 := subi (broadcastInDim S253 ![] bcast_S_S253 (constantI S_ 32 254#32)) exponents

theorem opposite_at (e : Fin 253) : opposite (ix1 e) = BitVec.ofNat 32 (254 - (e.val + 1)) := by
  have he := e.isLt
  have h : opposite (ix1 e) = BitVec.ofNat 32 254 - exponents (ix1 e) := by pointwise [opposite]; rfl
  rw [h, exponents_at, Cert.KernelIdeal.Own.sub_small _ _ (by omega)]

theorem wholes_at (z : FVec Ideal S2x8192x1 .f32) (b : Fin 2) (q : Fin 8192) (e : Fin 253) :
    wholes z (ix3 b q e) = Ideal.liftRound Int.ceil (z (ix3 b q 0) * val (BitVec.ofNat 32 ((254 - (e.val + 1)) * 2 ^ 23))) := by
  rw [← powers_at opposite e _ (opposite_at e)]
  unfold wholes
  rw [show subi (broadcastInDim S253 ![] bcast_S_S253 (constantI S_ 32 254#32)) exponents = opposite from rfl]
  generalize powers opposite = p
  pointwise []

/-- A number of units, rounded up, as a number; and the greatest number where there are too many. -/
def roundedTo (z : EReal) (e : Fin 253) : EReal :=
  if Ideal.liftRound Int.ceil (z * val (BitVec.ofNat 32 ((254 - (e.val + 1)) * 2 ^ 23))) ≤ Ideal.ofBits FTy.f32 1266679808#32
  then Ideal.liftRound Int.ceil (z * val (BitVec.ofNat 32 ((254 - (e.val + 1)) * 2 ^ 23))) * val (BitVec.ofNat 32 ((e.val + 1) * 2 ^ 23))
  else Ideal.ofBits FTy.f32 2139095040#32

theorem least_at (z : FVec Ideal S2x8192x1 .f32) (b : Fin 2) (q : Fin 8192) :
    least z (ix3 b q 0) = Finset.fold min (Ideal.ofBits FTy.f32 2139095040#32) (roundedTo (z (ix3 b q 0))) Finset.univ := by
  have e1 : ∀ e : Fin 253, powers exponents (ix1 e) = val (BitVec.ofNat 32 ((e.val + 1) * 2 ^ 23)) :=
    fun e => powers_at exponents e _ (exponents_at e)
  pointwise [least, fn_where_0]
  simp only [wholes_at, e1]
  rfl

theorem greatest : Ideal.ofBits FTy.f32 2139095040#32 = ⊤ := by
  simp [Ideal.ofBits, Ideal.ieee]

theorem most_units : Ideal.ofBits FTy.f32 1266679808#32 = ((2 ^ 24 : ℝ) : EReal) := by
  have h := val_eq 1266679808 (by decide)
  rw [show units 1266679808 = 2 ^ 173 by unfold units; norm_num] at h
  refine h.trans ?_
  congr 1
  push_cast
  norm_num

/-- The least of some numbers is the start or one of them. -/
theorem fold_min_mem {ι : Type} (s : Finset ι) (f : ι → EReal) (a : EReal) :
    s.fold min a f = a ∨ ∃ x ∈ s, s.fold min a f = f x := by
  classical
  induction s using Finset.induction_on with
  | empty => exact Or.inl rfl
  | insert x s hx ih =>
    rw [Finset.fold_insert hx]
    rcases min_choice (f x) (s.fold min a f) with h | h
    · exact Or.inr ⟨x, Finset.mem_insert_self _ _, h⟩
    · rw [h]
      exact ih.imp_right fun ⟨y, hy, e⟩ => ⟨y, Finset.mem_insert_of_mem hy, e⟩

theorem roundedTo_eq (z : EReal) (e : Fin 253) : roundedTo z e
    = if Ideal.liftRound Int.ceil (z * (((2 : ℝ) ^ (((254 - (e.val + 1) : ℕ) : ℤ) - 127) : ℝ) : EReal)) ≤ ((2 ^ 24 : ℝ) : EReal)
      then Ideal.liftRound Int.ceil (z * (((2 : ℝ) ^ (((254 - (e.val + 1) : ℕ) : ℤ) - 127) : ℝ) : EReal))
        * (((2 : ℝ) ^ (((e.val + 1 : ℕ) : ℤ) - 127) : ℝ) : EReal)
      else ⊤ := by
  have he := e.isLt
  unfold roundedTo
  rw [val_power (254 - (e.val + 1)) (by omega) (by omega), val_power (e.val + 1) (by omega) (by omega), most_units, greatest]

/-- A number rounded up, where finite, is a word's number and not below it. -/
theorem roundedTo_word (z : EReal) (h0 : 0 ≤ z) (e : Fin 253) (h : roundedTo z e ≤ val (BitVec.ofNat 32 top)) :
    ∃ w ≤ top, val (BitVec.ofNat 32 w) = roundedTo z e ∧ z ≤ val (BitVec.ofNat 32 w) := by
  have he := e.isLt
  rw [roundedTo_eq] at h ⊢
  generalize hk : Ideal.liftRound Int.ceil (z * (((2 : ℝ) ^ (((254 - (e.val + 1) : ℕ) : ℤ) - 127) : ℝ) : EReal)) = k at h ⊢
  by_cases hc : k ≤ ((2 ^ 24 : ℝ) : EReal)
  · rw [if_pos hc] at h ⊢
    have hz : z ≠ ⊤ := by
      rintro rfl
      rw [EReal.top_mul_coe_of_pos (by positivity)] at hk
      have : k = ⊤ := hk.symm
      rw [this] at hc
      exact absurd (top_le_iff.mp hc) (EReal.coe_ne_top _)
    lift z to ℝ using ⟨hz, fun e => by rw [e] at h0; exact absurd h0 (by decide)⟩
    rw [← EReal.coe_mul] at hk
    have hk' : k = ((⌈z * (2 : ℝ) ^ (((254 - (e.val + 1) : ℕ) : ℤ) - 127)⌉ : ℝ) : EReal) := hk.symm
    rw [hk'] at hc h ⊢
    rw [EReal.coe_le_coe_iff] at hc
    rw [← EReal.coe_mul] at h ⊢
    exact rounded_up z (by exact_mod_cast h0) (e.val + 1) (by omega) (by omega) _ rfl (by exact_mod_cast hc) h
  · rw [if_neg hc] at h
    exact absurd (top_le_iff.mp h) val_top

/-- So the least of them is, where finite. -/
theorem least_word (z : EReal) (h0 : 0 ≤ z)
    (h : Finset.fold min (Ideal.ofBits FTy.f32 2139095040#32) (roundedTo z) Finset.univ ≤ val (BitVec.ofNat 32 top)) :
    ∃ w ≤ top, val (BitVec.ofNat 32 w) = Finset.fold min (Ideal.ofBits FTy.f32 2139095040#32) (roundedTo z) Finset.univ
      ∧ z ≤ val (BitVec.ofNat 32 w) := by
  rcases fold_min_mem Finset.univ (roundedTo z) (Ideal.ofBits FTy.f32 2139095040#32) with e | ⟨x, -, e⟩
  · rw [e, greatest] at h
    exact absurd (top_le_iff.mp h) val_top
  · rw [e] at h ⊢
    exact roundedTo_word z h0 x h

set_option maxRecDepth 8192 in
theorem fn_eq (x : FVec Ideal S2x8192x128 .f32) (i o : IVec S2x8192 32) (tblI tblO : FVec Ideal S65536x2 .f32)
    (sigma : FVec Ideal S128 .f32) :
    fn (F := Ideal) x i o tblI tblO sigma
      = fn_part2 (F := Ideal) sigma (last (squared (taken tblO o) (taken tblI i))) (least (last (squared (taken tblO o) (taken tblI i))))
          (marks (squared (taken tblO o) (taken tblI i)) (least (last (squared (taken tblO o) (taken tblI i))))) := rfl

theorem and_one : ∀ a b : BitVec 1, IntOp.andi a b = 1#1 → a = 1#1 ∧ b = 1#1 := by decide

theorem or_one : ∀ a b : BitVec 1, IntOp.ori a b = 1#1 → a = 1#1 ∨ b = 1#1 := by decide

/-- What the precondition says of a row. -/
theorem holds_at (x : FVec Ideal S2x8192x128 .f32) (i o : IVec S2x8192 32) (tblI tblO : FVec Ideal S65536x2 .f32)
    (sigma : FVec Ideal S128 .f32) (h : fn (F := Ideal) x i o tblI tblO sigma = fun _ => 1#1) (b : Fin 2) (q : Fin 8192) (j : Fin 128)
    (h0 : 0 ≤ far fun n => squared (taken tblO o) (taken tblI i) (ix3 b q n)) :
    Reached (fun n => squared (taken tblO o) (taken tblI i) (ix3 b q n)) (far fun n => squared (taken tblO o) (taken tblI i) (ix3 b q n))
      ∧ sigma (ix1 j) = sigma (ix1 0) ∧ sigma (ix1 j) ≠ 0 := by
  have h1 := congrFun h (ix3 b q j)
  rw [fn_eq] at h1
  generalize squared (taken tblO o) (taken tblI i) = d at h1 h0 ⊢
  rw [part_at, least_at, last_at] at h1
  obtain ⟨h1, hs⟩ := and_one _ _ h1
  obtain ⟨h1, he⟩ := and_one _ _ h1
  obtain ⟨hc, hf⟩ := and_one _ _ h1
  refine ⟨?_, of_decide_eq_true ((Cert.KernelIdeal.Own.ofBool_one _).mp he), of_decide_eq_true ((Cert.KernelIdeal.Own.ofBool_one _).mp hs)⟩
  obtain ⟨w, hw, ew, hle⟩ := least_word _ h0 (of_decide_eq_true ((Cert.KernelIdeal.Own.ofBool_one _).mp hf))
  refine ⟨w, hw, hle, ?_⟩
  rcases or_one _ _ hc with hc | hc
  · left
    have hm : (fun n : Fin 8192 => BitVec.setWidth 32 (marks d (least (last d)) (ix3 b q n)))
        = fun n => BitVec.setWidth 32 (BitVec.ofBool (decide (d (ix3 b q n) ≤ val (BitVec.ofNat 32 w)))) :=
      funext fun n => by rw [marks_at, least_at, last_at, ew]
    have hw' : Finset.fold IntOp.addi (0#32) (fun n : Fin 8192 => BitVec.setWidth 32 (marks d (least (last d)) (ix3 b q n))) Finset.univ
        = BitVec.ofNat 32 (nLe (fun n => d (ix3 b q n)) (val (BitVec.ofNat 32 w))) :=
      (congrArg (fun f => Finset.fold IntOp.addi (0#32) f Finset.univ) hm).trans
        (Cert.KernelIdeal.Own.fold_count Finset.univ fun n => d (ix3 b q n) ≤ val (BitVec.ofNat 32 w))
    have hc' : Finset.fold IntOp.addi (0#32) (fun n : Fin 8192 => BitVec.setWidth 32 (marks d (least (last d)) (ix3 b q n))) Finset.univ
        = 32#32 := eq_of_beq ((Cert.KernelIdeal.Own.ofBool_one _).mp hc)
    have hn := congrArg BitVec.toNat (hw'.symm.trans hc')
    have hl := Cert.KernelIdeal.Own.nLe_le (fun n => d (ix3 b q n)) (val (BitVec.ofNat 32 w))
    rw [BitVec.toNat_ofNat, Nat.mod_eq_of_lt (by omega)] at hn
    exact hn
  · right
    exact ew.trans (of_decide_eq_true ((Cert.KernelIdeal.Own.ofBool_one _).mp hc))

end Cert.Pre_nearest_stand_apart.Own

end
-- ==== Proof.Algebraic.lean ====
/-
  The kernel's result is the reference's, under the precondition.
-/
module

public import proofs.«01_k».proof.Proof.Equation
public import proofs.«01_k».proof.Proof.Pre

@[expose] public section

noncomputable section

namespace Cert.Algebraic

open Idealize.ShloMosaic Idealize.ShloMosaic.TcCoe Idealize.SL.Sem
open Cert.KernelIdeal Cert.KernelIdeal.Gen Cert.KernelIdeal.Own
open Cert.ReferenceIdeal.Own (squared squared_at answer answer_at order early)
open Cert.Nearest (far)
open Cert.Word

variable (m : (ℓ : Loc nD τ sig) → Buf (Elt Ideal) ℓ)

/-- The precondition, of a device's arguments. -/
def Holds (c : Dev nD) : Prop :=
  Cert.Pre_nearest_stand_apart.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = fun _ => 1#1

/-- The reference's result, of the kernel's arguments. -/
def expected (c : Dev nD) : FVec Ideal S2x8192x128 .f32 :=
  answer (m ((c.tc : Thread nD τ).loc main_arg0)) (squared (outer m c) (inner m c)) (m ((c.tc : Thread nD τ).loc main_arg5))

/-- A block's row holds the average over the 32 nearest, where the 32nd's distance is reached. -/
theorem out_nearest (x0 : Vec Ideal S1x128x2 .f32) (x1 : Vec Ideal S1x2x8192 .f32) (x2 : Vec Ideal S1x8192x128 .f32)
    (x3 : Vec Ideal S1x1 .f32) (r j : Fin 128) (D : Fin 8192 → EReal)
    (hrow : ∀ k : Fin 8192, D k = (x0 (ix3 0 r 0) - x1 (ix3 0 0 k)) * (x0 (ix3 0 r 0) - x1 (ix3 0 0 k))
      + (x0 (ix3 0 r 1) - x1 (ix3 0 1 k)) * (x0 (ix3 0 r 1) - x1 (ix3 0 1 k)))
    (hw : Reached D (far D)) (two s s' : EReal) (h2 : two ≠ 0)
    (hs : s' = s) (hz : s' ≠ 0) (e3 : x3 (ix2 0 0) = Ideal.div 1 (two * s * s)) :
    out x0 x1 x2 x3 (ix3 0 r j)
      = Ideal.div (∑ k : Fin 32, Ideal.exp (Ideal.div (-D (order D (early k))) (two * (s' * s'))) * x2 (ix3 0 (order D (early k)) j))
        (∑ k : Fin 32, Ideal.exp (Ideal.div (-D (order D (early k))) (two * (s' * s'))) + Ideal.ofBits FTy.f32 814313567#32) := by
  have hz' : s ≠ 0 := hs ▸ hz
  rw [out_at x0 x1 x2 x3 r j D hrow hw, e3]
  exact Cert.Equation.average_eq D two s s' h2 hz' hs fun k => x2 (ix3 0 k j)

theorem far_nonneg (D : Fin 8192 → EReal) (h : ∀ k, 0 ≤ D k) : 0 ≤ far D := h _

theorem squared_far_nonneg (o p : FVec Ideal S2x8192x2 .f32) (b : Fin 2) (q : Fin 8192) :
    0 ≤ far fun n => squared o p (ix3 b q n) :=
  far_nonneg _ fun k => by
    rw [squared_at]
    exact add_nonneg (square_nonneg _) (square_nonneg _)

/-- A block's row holds the reference's, the block's inputs being the arrays' at the block's batch and queries. -/
theorem out_expected (c : Dev nD) (h : Holds m c) (b : Fin 2) (q : Fin 8192) (r j : Fin 128)
    (x0 : Vec Ideal S1x128x2 .f32) (x1 : Vec Ideal S1x2x8192 .f32) (x2 : Vec Ideal S1x8192x128 .f32) (x3 : Vec Ideal S1x1 .f32)
    (e0 : ∀ a : Fin 2, x0 (ix3 0 r a) = outer m c (ix3 b q a)) (e1 : ∀ (a : Fin 2) (k : Fin 8192), x1 (ix3 0 a k) = inner m c (ix3 b k a))
    (e2 : ∀ k : Fin 8192, x2 (ix3 0 k j) = (m ((c.tc : Thread nD τ).loc main_arg0) : FVec Ideal S2x8192x128 .f32) (ix3 b k j))
    (e3 : x3 (ix2 0 0) = (scaled (m ((c.tc : Thread nD τ).loc main_arg5)) : FVec Ideal S1x1 .f32) (ix2 0 0)) :
    out x0 x1 x2 x3 (ix3 0 r j) = expected m c (ix3 b q j) := by
  obtain ⟨hw, hs, hz⟩ := Cert.Pre_nearest_stand_apart.Own.holds_at _ _ _ _ _ _ h b q j (squared_far_nonneg _ _ _ _)
  have hrow : ∀ k : Fin 8192, squared (outer m c) (inner m c) (ix3 b q k)
      = (x0 (ix3 0 r 0) - x1 (ix3 0 0 k)) * (x0 (ix3 0 r 0) - x1 (ix3 0 0 k))
        + (x0 (ix3 0 r 1) - x1 (ix3 0 1 k)) * (x0 (ix3 0 r 1) - x1 (ix3 0 1 k)) := fun k => by
    rw [e0, e0, e1, e1]
    exact squared_at _ _ _ _ _
  rw [scaled_at, Cert.Equation.one_word] at e3
  unfold expected
  rw [answer_at, out_nearest x0 x1 x2 x3 r j (fun n => squared (outer m c) (inner m c) (ix3 b q n)) hrow hw
    _ _ _ Cert.Equation.two_pos hs hz e3]
  simp only [e2]

theorem block_expected (c : Dev nD) (h : Holds m c) (t : Fin grid0.N) (r j : Fin 128) :
    after4 m c t (ix3 0 r j) = expected m c (ix3 (bt t) (qt t r) j) :=
  out_expected m c h (bt t) (qt t r) r j (iblk m c 0 t) (iblk m c 1 t) (iblk m c 2 t) (iblk m c 3 t)
    (block_0 m c t r) (block_1 m c t) (fun k => block_2 m c t k j) (block_3 m c t)

/-- The result's array is the reference's result. -/
theorem final (c : Dev nD) (h : Holds m c) : (dats m 0 c).arrAt 4 (cfg0 (F := Ideal)).N = expected m c :=
  final_of m c _ fun t r j => block_expected m c h t r j

end Cert.Algebraic

end
-- ==== Proof.lean ====
/-
  The certificate: each claim from the module that proves it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.AtBits.Frame
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame, at bit patterns. -/
theorem frame_kernel : Cert.quiescent_Kernel := fun m ρ _ => Cert.Kernel.Own.frame_all (F := Bits) m ρ

/-- The kernel's frame, at extended reals. -/
theorem frame_ideal : Cert.quiescent_KernelIdeal := fun m ρ _ => Cert.KernelIdeal.Own.frame_all (F := Ideal) m ρ

/-- The reference's frame: it has no semaphore, and no operation writes an argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, where the 32 nearest inputs of every query stand apart. -/
theorem algebraic :
    Cert.algebraic_KernelIdeal_ReferenceIdeal_pre_nearest_stand_apart (hPre_nearest_stand_apart := Cert.Pre_nearest_stand_apart.Own.facts) :=
  fun m ρ m' ρ' hpre hagree => by
    refine ⟨fun c => Cert.Algebraic.expected m c, ?_, ?_⟩
    · refine (θ_run Cert.KernelIdeal.defs _ _).mono (fun r h c => ⟨?_, Cert.KernelIdeal.Own.args_kept m c r h.1⟩)
        (Cert.KernelIdeal.Own.run_main (F := Ideal) m ρ)
      exact ((h.1 c).1 (4 : Fin 5)).trans (Cert.Algebraic.final m c (hpre c))
    · refine (θ_run Cert.ReferenceIdeal.defs _ _).mono (fun r h c => ⟨?_, (h c).2⟩)
        (Cert.ReferenceIdeal.Value.run (F := Ideal) m' ρ')
      refine (h c).1.trans ((Cert.ReferenceIdeal.Own.res_eq m' c).trans ?_)
      obtain ⟨h0, h1, h2, h3, h4, h5⟩ := hagree c
      rw [h0, h1, h2, h3, h4, h5]
      rfl

theorem claim : Cert.Claim :=
  ⟨Cert.Kernel.Gen.facts, Cert.KernelIdeal.Gen.facts, Cert.ReferenceIdeal.Gen.facts, Cert.Pre_nearest_stand_apart.Own.facts,
    frame_kernel, frame_ideal, fun m ρ _ => frame_ideal m ρ trivial, frame_reference, fun m ρ _ => frame_reference m ρ trivial,
    trivial, algebraic⟩

end Cert.Proof

end
